-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_v79) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x2048 : Shape := ⟨3, ![8, 2048, 2048]⟩
abbrev S8x2048x256 : Shape := ⟨3, ![8, 2048, 256]⟩
abbrev S8x2048x16x128 : Shape := ⟨4, ![8, 2048, 16, 128]⟩
abbrev S_ : Shape := ⟨0, ![]⟩
abbrev S8x16 : Shape := ⟨2, ![8, 16]⟩
abbrev S8x2048x2x128 : Shape := ⟨4, ![8, 2048, 2, 128]⟩
abbrev S8x2 : Shape := ⟨2, ![8, 2]⟩

class Facts : Prop where
  shapeCasts_S8x2048x2048_S8x2048x16x128 : S8x2048x2048.ShapeCasts S8x2048x16x128
  bitsLt_bf16_f32 : FTy.bits .bf16 < FTy.bits .f32
  reducesTo_S8x2048x16x128_S8x16_d1_3 : S8x2048x16x128.ReducesTo [1, 3] S8x16
  h_S_ : 0 < S_.numel
  bcast_S_S8x16 : S_.BroadcastsInDim S8x16 (![] : Fin 0 → Fin S8x16.rank)
  reducesTo_S8x16_S_d0_1 : S8x16.ReducesTo [0, 1] S_
  shapeCasts_S8x2048x256_S8x2048x2x128 : S8x2048x256.ShapeCasts S8x2048x2x128
  reducesTo_S8x2048x2x128_S8x2_d1_3 : S8x2048x2x128.ReducesTo [1, 3] S8x2
  bcast_S_S8x2 : S_.BroadcastsInDim S8x2 (![] : Fin 0 → Fin S8x2.rank)
  reducesTo_S8x2_S_d0_1 : S8x2.ReducesTo [0, 1] S_

variable [Facts]

def fn_part2 {F : FTy → Type} [FloatOps F] (main_v27 : IVec S_ 1) (main_v31 : FVec F S8x2 .f32) (main_v33 : IVec S8x2 1) (main_cst_11 : FVec F S_ .f32) : IVec S_ 1 :=
  let main_v34 : FVec F S8x2 .f32 := broadcastInDim S8x2 ![] bcast_S_S8x2 main_cst_11
  let main_v35 : IVec S8x2 1 := cmpf .oge main_v31 main_v34
  let main_cst_12 : FVec F S_ .f32 := constant S_ .f32 0x7F7F0000#32
  let main_v36 : FVec F S8x2 .f32 := broadcastInDim S8x2 ![] bcast_S_S8x2 main_cst_12
  let main_v37 : IVec S8x2 1 := cmpf .ole main_v31 main_v36
  let main_v38 : IVec S8x2 1 := andi main_v35 main_v37
  let main_v39 : IVec S8x2 1 := ori main_v33 main_v38
  let main_c_13 : IVec S_ 1 := constantI S_ 1 1#1
  let main_v40 : IVec S_ 1 := (fun x v => Host.reduce IntOp.andi x v reducesTo_S8x2_S_d0_1 h_S_) main_v39 main_c_13
  let main_v41 : IVec S_ 1 := andi main_v27 main_v40
  main_v41

def fn_part1 {F : FTy → Type} [FloatOps F] (main_arg2 : FVec F S8x2048x256 .bf16) (main_v13 : IVec S_ 1) (main_v16 : FVec F S8x2048x2x128 .f32) (main_cst_4 : FVec F S_ .f32) : IVec S_ 1 :=
  let main_v17 : FVec F S8x2 .f32 := (fun x v => Host.reduce FloatOps.maximumf x v reducesTo_S8x2048x2x128_S8x2_d1_3 h_S_) main_v16 main_cst_4
  let main_cst_5 : FVec F S_ .f32 := constant S_ .f32 0x00000000#32
  let main_v18 : FVec F S8x2 .f32 := broadcastInDim S8x2 ![] bcast_S_S8x2 main_cst_5
  let main_v19 : IVec S8x2 1 := cmpf .oeq main_v17 main_v18
  let main_cst_6 : FVec F S_ .f32 := constant S_ .f32 0x05000000#32
  let main_v20 : FVec F S8x2 .f32 := broadcastInDim S8x2 ![] bcast_S_S8x2 main_cst_6
  let main_v21 : IVec S8x2 1 := cmpf .oge main_v17 main_v20
  let main_cst_7 : FVec F S_ .f32 := constant S_ .f32 0x7F7F0000#32
  let main_v22 : FVec F S8x2 .f32 := broadcastInDim S8x2 ![] bcast_S_S8x2 main_cst_7
  let main_v23 : IVec S8x2 1 := cmpf .ole main_v17 main_v22
  let main_v24 : IVec S8x2 1 := andi main_v21 main_v23
  let main_v25 : IVec S8x2 1 := ori main_v19 main_v24
  let main_c_8 : IVec S_ 1 := constantI S_ 1 1#1
  let main_v26 : IVec S_ 1 := (fun x v => Host.reduce IntOp.andi x v reducesTo_S8x2_S_d0_1 h_S_) main_v25 main_c_8
  let main_v27 : IVec S_ 1 := andi main_v13 main_v26
  let main_v28 : FVec F S8x2048x2x128 .bf16 := shapeCast S8x2048x2x128 main_arg2 shapeCasts_S8x2048x256_S8x2048x2x128
  let main_v29 : FVec F S8x2048x2x128 .f32 := (extf .f32 · bitsLt_bf16_f32) main_v28
  let main_v30 : FVec F S8x2048x2x128 .f32 := Host.absf main_v29
  let main_cst_9 : FVec F S_ .f32 := constant S_ .f32 0xFF800000#32
  let main_v31 : FVec F S8x2 .f32 := (fun x v => Host.reduce FloatOps.maximumf x v reducesTo_S8x2048x2x128_S8x2_d1_3 h_S_) main_v30 main_cst_9
  let main_cst_10 : FVec F S_ .f32 := constant S_ .f32 0x00000000#32
  let main_v32 : FVec F S8x2 .f32 := broadcastInDim S8x2 ![] bcast_S_S8x2 main_cst_10
  let main_v33 : IVec S8x2 1 := cmpf .oeq main_v31 main_v32
  let main_cst_11 : FVec F S_ .f32 := constant S_ .f32 0x05000000#32
  fn_part2 (F := F) main_v27 main_v31 main_v33 main_cst_11

def fn {F : FTy → Type} [FloatOps F] (main_arg0 : FVec F S8x2048x2048 .bf16) (main_arg1 : FVec F S8x2048x256 .bf16) (main_arg2 : FVec F S8x2048x256 .bf16) : IVec S_ 1 :=
  let main_v0 : FVec F S8x2048x16x128 .bf16 := shapeCast S8x2048x16x128 main_arg0 shapeCasts_S8x2048x2048_S8x2048x16x128
  let main_v1 : FVec F S8x2048x16x128 .f32 := (extf .f32 · bitsLt_bf16_f32) main_v0
  let main_v2 : FVec F S8x2048x16x128 .f32 := Host.absf main_v1
  let main_cst : FVec F S_ .f32 := constant S_ .f32 0xFF800000#32
  let main_v3 : FVec F S8x16 .f32 := (fun x v => Host.reduce FloatOps.maximumf x v reducesTo_S8x2048x16x128_S8x16_d1_3 h_S_) main_v2 main_cst
  let main_cst_0 : FVec F S_ .f32 := constant S_ .f32 0x00000000#32
  let main_v4 : FVec F S8x16 .f32 := broadcastInDim S8x16 ![] bcast_S_S8x16 main_cst_0
  let main_v5 : IVec S8x16 1 := cmpf .oeq main_v3 main_v4
  let main_cst_1 : FVec F S_ .f32 := constant S_ .f32 0x05000000#32
  let main_v6 : FVec F S8x16 .f32 := broadcastInDim S8x16 ![] bcast_S_S8x16 main_cst_1
  let main_v7 : IVec S8x16 1 := cmpf .oge main_v3 main_v6
  let main_cst_2 : FVec F S_ .f32 := constant S_ .f32 0x7F7F0000#32
  let main_v8 : FVec F S8x16 .f32 := broadcastInDim S8x16 ![] bcast_S_S8x16 main_cst_2
  let main_v9 : IVec S8x16 1 := cmpf .ole main_v3 main_v8
  let main_v10 : IVec S8x16 1 := andi main_v7 main_v9
  let main_v11 : IVec S8x16 1 := ori main_v5 main_v10
  let main_c : IVec S_ 1 := constantI S_ 1 1#1
  let main_v12 : IVec S_ 1 := (fun x v => Host.reduce IntOp.andi x v reducesTo_S8x16_S_d0_1 h_S_) main_v11 main_c
  let main_c_3 : IVec S_ 1 := constantI S_ 1 1#1
  let main_v13 : IVec S_ 1 := andi main_c_3 main_v12
  let main_v14 : FVec F S8x2048x2x128 .bf16 := shapeCast S8x2048x2x128 main_arg1 shapeCasts_S8x2048x256_S8x2048x2x128
  let main_v15 : FVec F S8x2048x2x128 .f32 := (extf .f32 · bitsLt_bf16_f32) main_v14
  let main_v16 : FVec F S8x2048x2x128 .f32 := Host.absf main_v15
  let main_cst_4 : FVec F S_ .f32 := constant S_ .f32 0xFF800000#32
  fn_part1 (F := F) main_arg2 main_v13 main_v16 main_cst_4
-- ==== Kernel.lean ====
abbrev S8x2048x2048 : Shape := ⟨3, ![8, 2048, 2048]⟩
abbrev S8x2048x256 : Shape := ⟨3, ![8, 2048, 256]⟩
abbrev S8x16x2048x128 : Shape := ⟨4, ![8, 16, 2048, 128]⟩
abbrev S8x2x8x128 : Shape := ⟨4, ![8, 2, 8, 128]⟩
abbrev S8x2x2048x128 : Shape := ⟨4, ![8, 2, 2048, 128]⟩
abbrev S8x2x1x128 : Shape := ⟨4, ![8, 2, 1, 128]⟩
abbrev S1x2048x1024 : Shape := ⟨3, ![1, 2048, 1024]⟩
abbrev S1x2048x128 : Shape := ⟨3, ![1, 2048, 128]⟩
abbrev S1x8x2048x128 : Shape := ⟨4, ![1, 8, 2048, 128]⟩
abbrev S1x1x8x128 : Shape := ⟨4, ![1, 1, 8, 128]⟩
abbrev S1x1x2048x128 : Shape := ⟨4, ![1, 1, 2048, 128]⟩
abbrev S1x1x1x128 : Shape := ⟨4, ![1, 1, 1, 128]⟩
abbrev S128x2048 : Shape := ⟨2, ![128, 2048]⟩
abbrev S2x2048x256 : Shape := ⟨3, ![2, 2048, 256]⟩
abbrev S1x256x128 : Shape := ⟨3, ![1, 256, 128]⟩
abbrev S256x128 : Shape := ⟨2, ![256, 128]⟩
abbrev S16x16x128 : Shape := ⟨3, ![16, 16, 128]⟩
abbrev S16x128 : Shape := ⟨2, ![16, 128]⟩
abbrev S128 : Shape := ⟨1, ![128]⟩
abbrev S1x128 : Shape := ⟨2, ![1, 128]⟩
abbrev S16 : Shape := ⟨1, ![16]⟩
abbrev S16x1 : Shape := ⟨2, ![16, 1]⟩
abbrev S8x128 : Shape := ⟨2, ![8, 128]⟩
abbrev S1x1 : Shape := ⟨2, ![1, 1]⟩
abbrev S1x1x256x128 : Shape := ⟨4, ![1, 1, 256, 128]⟩
abbrev S128x256 : Shape := ⟨2, ![128, 256]⟩
abbrev S256x256 : Shape := ⟨2, ![256, 256]⟩
abbrev S1x1x1x1 : Shape := ⟨4, ![1, 1, 1, 1]⟩
abbrev S1x256x256 : Shape := ⟨3, ![1, 256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S128x512 : Shape := ⟨2, ![128, 512]⟩
abbrev S1x512x256 : Shape := ⟨3, ![1, 512, 256]⟩
abbrev S512x256 : Shape := ⟨2, ![512, 256]⟩
abbrev S128x768 : Shape := ⟨2, ![128, 768]⟩
abbrev S1x768x256 : Shape := ⟨3, ![1, 768, 256]⟩
abbrev S768x256 : Shape := ⟨2, ![768, 256]⟩
abbrev S128x1024 : Shape := ⟨2, ![128, 1024]⟩
abbrev S1x1024x256 : Shape := ⟨3, ![1, 1024, 256]⟩
abbrev S1024x256 : Shape := ⟨2, ![1024, 256]⟩
abbrev S128x1280 : Shape := ⟨2, ![128, 1280]⟩
abbrev S1x1280x256 : Shape := ⟨3, ![1, 1280, 256]⟩
abbrev S1280x256 : Shape := ⟨2, ![1280, 256]⟩
abbrev S128x1536 : Shape := ⟨2, ![128, 1536]⟩
abbrev S1x1536x256 : Shape := ⟨3, ![1, 1536, 256]⟩
abbrev S1536x256 : Shape := ⟨2, ![1536, 256]⟩
abbrev S128x1792 : Shape := ⟨2, ![128, 1792]⟩
abbrev S1x1792x256 : Shape := ⟨3, ![1, 1792, 256]⟩
abbrev S1792x256 : Shape := ⟨2, ![1792, 256]⟩
abbrev S1x2048x256 : Shape := ⟨3, ![1, 2048, 256]⟩
abbrev S2048x256 : Shape := ⟨2, ![2048, 256]⟩
abbrev S8x2x8x1 : Shape := ⟨4, ![8, 2, 8, 1]⟩
abbrev S8x2x8 : Shape := ⟨3, ![8, 2, 8]⟩
abbrev S8x16 : Shape := ⟨2, ![8, 16]⟩
abbrev S8x2048x16x128 : Shape := ⟨4, ![8, 2048, 16, 128]⟩
abbrev S8x2048x2x128 : Shape := ⟨4, ![8, 2048, 2, 128]⟩
abbrev S8x2x1x1 : Shape := ⟨4, ![8, 2, 1, 1]⟩
abbrev S8x2 : Shape := ⟨2, ![8, 2]⟩

abbrev nBuf : Space → Nat
  | .hbm => 20
  | .vmem => 23
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x256, .bf16⟩
  | .hbm, ⟨2, _⟩ => ⟨S8x2048x256, .bf16⟩
  | .hbm, ⟨3, _⟩ => ⟨S8x2048x2048, .bf16⟩
  | .hbm, ⟨4, _⟩ => ⟨S8x16x2048x128, .fp8e4m3⟩
  | .hbm, ⟨5, _⟩ => ⟨S8x2x8x128, .f32⟩
  | .hbm, ⟨6, _⟩ => ⟨S8x2x2048x128, .fp8e4m3⟩
  | .hbm, ⟨7, _⟩ => ⟨S8x2x1x128, .f32⟩
  | .hbm, ⟨8, _⟩ => ⟨S8x2x2048x128, .fp8e4m3⟩
  | .hbm, ⟨9, _⟩ => ⟨S8x2x1x128, .f32⟩
  | .hbm, ⟨10, _⟩ => ⟨S8x2x8x1, .f32⟩
  | .hbm, ⟨11, _⟩ => ⟨S8x2x8, .f32⟩
  | .hbm, ⟨12, _⟩ => ⟨S8x16, .f32⟩
  | .hbm, ⟨13, _⟩ => ⟨S8x2048x16x128, .fp8e4m3⟩
  | .hbm, ⟨14, _⟩ => ⟨S8x2048x2x128, .fp8e4m3⟩
  | .hbm, ⟨15, _⟩ => ⟨S8x2x1x1, .f32⟩
  | .hbm, ⟨16, _⟩ => ⟨S8x2, .f32⟩
  | .hbm, ⟨17, _⟩ => ⟨S8x2048x2x128, .fp8e4m3⟩
  | .hbm, ⟨18, _⟩ => ⟨S8x2x1x1, .f32⟩
  | .hbm, ⟨19, _⟩ => ⟨S8x2, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x8x2048x128, .fp8e4m3⟩
  | .local _ .vmem, ⟨9, _⟩ => ⟨S1x8x2048x128, .fp8e4m3⟩
  | .local _ .vmem, ⟨10, _⟩ => ⟨S1x1x8x128, .f32⟩
  | .local _ .vmem, ⟨11, _⟩ => ⟨S1x1x8x128, .f32⟩
  | .local _ .vmem, ⟨12, _⟩ => ⟨S1x1x2048x128, .fp8e4m3⟩
  | .local _ .vmem, ⟨13, _⟩ => ⟨S1x1x2048x128, .fp8e4m3⟩
  | .local _ .vmem, ⟨14, _⟩ => ⟨S1x1x1x128, .f32⟩
  | .local _ .vmem, ⟨15, _⟩ => ⟨S1x1x1x128, .f32⟩
  | .local _ .vmem, ⟨16, _⟩ => ⟨S1x1x2048x128, .fp8e4m3⟩
  | .local _ .vmem, ⟨17, _⟩ => ⟨S1x1x2048x128, .fp8e4m3⟩
  | .local _ .vmem, ⟨18, _⟩ => ⟨S1x1x1x128, .f32⟩
  | .local _ .vmem, ⟨19, _⟩ => ⟨S1x1x1x128, .f32⟩
  | .local _ .vmem, ⟨20, _⟩ => ⟨S128x2048, .fp8e4m3⟩
  | .local _ .vmem, ⟨21, _⟩ => ⟨S2x2048x256, .f32⟩
  | .local _ .vmem, ⟨22, _⟩ => ⟨S2x2048x256, .fp8e4m3⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_1071 : BitVec 32 := 0#32
  let c8_i32_1072 : BitVec 32 := 8#32
  let v1915 : BitVec 32 := Scalar.addi c0_i32_1071 c8_i32_1072
  let c1_i32_1073 : BitVec 32 := 1#32
  ⟨c0_i32_1071, v1915, c1_i32_1073⟩
def k0_mult1 (k0_t1 : Fin k0_t1_loop.trips) : BitVec 32 :=
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  v1916
def k0_off1 (k0_t1 : Fin k0_t1_loop.trips) : Fin 4 → Nat :=
  let c0_1076 : Index := 0#32
  let c0_1077 : Index := 0#32
  let c0_i32_1071 : BitVec 32 := 0#32
  let c1_i32_1073 : BitVec 32 := 1#32
  let arg15 : BitVec 32 := Scf.iv c0_i32_1071 c1_i32_1073 k0_t1
  let v1918 : Index := Scalar.indexCast arg15
  let c0_1078 : Index := 0#32
  ![0, 0, v1918.toNat, 0]
def k0_off2 (k0_t1 : Fin k0_t1_loop.trips) : Fin 4 → Nat :=
  let c0_1081 : Index := 0#32
  let c0_i32_1071 : BitVec 32 := 0#32
  let c1_i32_1073 : BitVec 32 := 1#32
  let arg15 : BitVec 32 := Scf.iv c0_i32_1071 c1_i32_1073 k0_t1
  let v1926 : Index := Scalar.indexCast arg15
  let c0_1082 : Index := 0#32
  let c0_1083 : Index := 0#32
  ![0, v1926.toNat, 0, 0]
def k0_off3 (k0_t1 : Fin k0_t1_loop.trips) : Fin 3 → Nat :=
  let c0_1109 : Index := 0#32
  let c0_1110 : Index := 0#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v1966 : Index := Scalar.indexCast v1917
  ![0, 0, v1966.toNat]
def k0_off4 (k0_t1 : Fin k0_t1_loop.trips) : Fin 4 → Nat :=
  let c0_1111 : Index := 0#32
  let c0_i32_1071 : BitVec 32 := 0#32
  let c1_i32_1073 : BitVec 32 := 1#32
  let arg15 : BitVec 32 := Scf.iv c0_i32_1071 c1_i32_1073 k0_t1
  let v1970 : Index := Scalar.indexCast arg15
  let c256_1112 : Index := 256#32
  let c0_1113 : Index := 0#32
  ![0, v1970.toNat, 256, 0]
def k0_off5 (k0_t1 : Fin k0_t1_loop.trips) : Fin 3 → Nat :=
  let c0_1155 : Index := 0#32
  let c256_1156 : Index := 256#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2033 : Index := Scalar.indexCast v1917
  ![0, 256, v2033.toNat]
def k0_off6 (k0_t1 : Fin k0_t1_loop.trips) : Fin 4 → Nat :=
  let c0_1157 : Index := 0#32
  let c0_i32_1071 : BitVec 32 := 0#32
  let c1_i32_1073 : BitVec 32 := 1#32
  let arg15 : BitVec 32 := Scf.iv c0_i32_1071 c1_i32_1073 k0_t1
  let v2037 : Index := Scalar.indexCast arg15
  let c512_1158 : Index := 512#32
  let c0_1159 : Index := 0#32
  ![0, v2037.toNat, 512, 0]
def k0_off7 (k0_t1 : Fin k0_t1_loop.trips) : Fin 3 → Nat :=
  let c0_1217 : Index := 0#32
  let c512_1218 : Index := 512#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2123 : Index := Scalar.indexCast v1917
  ![0, 512, v2123.toNat]
def k0_off8 (k0_t1 : Fin k0_t1_loop.trips) : Fin 4 → Nat :=
  let c0_1219 : Index := 0#32
  let c0_i32_1071 : BitVec 32 := 0#32
  let c1_i32_1073 : BitVec 32 := 1#32
  let arg15 : BitVec 32 := Scf.iv c0_i32_1071 c1_i32_1073 k0_t1
  let v2127 : Index := Scalar.indexCast arg15
  let c768_1220 : Index := 768#32
  let c0_1221 : Index := 0#32
  ![0, v2127.toNat, 768, 0]
def k0_off9 (k0_t1 : Fin k0_t1_loop.trips) : Fin 3 → Nat :=
  let c0_1295 : Index := 0#32
  let c768_1296 : Index := 768#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2236 : Index := Scalar.indexCast v1917
  ![0, 768, v2236.toNat]
def k0_off10 (k0_t1 : Fin k0_t1_loop.trips) : Fin 4 → Nat :=
  let c0_1297 : Index := 0#32
  let c0_i32_1071 : BitVec 32 := 0#32
  let c1_i32_1073 : BitVec 32 := 1#32
  let arg15 : BitVec 32 := Scf.iv c0_i32_1071 c1_i32_1073 k0_t1
  let v2240 : Index := Scalar.indexCast arg15
  let c1024_1298 : Index := 1024#32
  let c0_1299 : Index := 0#32
  ![0, v2240.toNat, 1024, 0]
def k0_off11 (k0_t1 : Fin k0_t1_loop.trips) : Fin 3 → Nat :=
  let c0_1389 : Index := 0#32
  let c1024_1390 : Index := 1024#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2372 : Index := Scalar.indexCast v1917
  ![0, 1024, v2372.toNat]
def k0_off12 (k0_t1 : Fin k0_t1_loop.trips) : Fin 4 → Nat :=
  let c0_1391 : Index := 0#32
  let c0_i32_1071 : BitVec 32 := 0#32
  let c1_i32_1073 : BitVec 32 := 1#32
  let arg15 : BitVec 32 := Scf.iv c0_i32_1071 c1_i32_1073 k0_t1
  let v2376 : Index := Scalar.indexCast arg15
  let c1280_1392 : Index := 1280#32
  let c0_1393 : Index := 0#32
  ![0, v2376.toNat, 1280, 0]
def k0_off13 (k0_t1 : Fin k0_t1_loop.trips) : Fin 3 → Nat :=
  let c0_1499 : Index := 0#32
  let c1280_1500 : Index := 1280#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2531 : Index := Scalar.indexCast v1917
  ![0, 1280, v2531.toNat]
def k0_off14 (k0_t1 : Fin k0_t1_loop.trips) : Fin 4 → Nat :=
  let c0_1501 : Index := 0#32
  let c0_i32_1071 : BitVec 32 := 0#32
  let c1_i32_1073 : BitVec 32 := 1#32
  let arg15 : BitVec 32 := Scf.iv c0_i32_1071 c1_i32_1073 k0_t1
  let v2535 : Index := Scalar.indexCast arg15
  let c1536_1502 : Index := 1536#32
  let c0_1503 : Index := 0#32
  ![0, v2535.toNat, 1536, 0]
def k0_off15 (k0_t1 : Fin k0_t1_loop.trips) : Fin 3 → Nat :=
  let c0_1625 : Index := 0#32
  let c1536_1626 : Index := 1536#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2713 : Index := Scalar.indexCast v1917
  ![0, 1536, v2713.toNat]
def k0_off16 (k0_t1 : Fin k0_t1_loop.trips) : Fin 4 → Nat :=
  let c0_1627 : Index := 0#32
  let c0_i32_1071 : BitVec 32 := 0#32
  let c1_i32_1073 : BitVec 32 := 1#32
  let arg15 : BitVec 32 := Scf.iv c0_i32_1071 c1_i32_1073 k0_t1
  let v2717 : Index := Scalar.indexCast arg15
  let c1792_1628 : Index := 1792#32
  let c0_1629 : Index := 0#32
  ![0, v2717.toNat, 1792, 0]
def k0_off17 (k0_t1 : Fin k0_t1_loop.trips) : Fin 3 → Nat :=
  let c0_1767 : Index := 0#32
  let c1792_1768 : Index := 1792#32
  let c0_i32_1071 : BitVec 32 := 0#32
  let c1_i32_1073 : BitVec 32 := 1#32
  let arg15 : BitVec 32 := Scf.iv c0_i32_1071 c1_i32_1073 k0_t1
  let c128_i32_1075 : BitVec 32 := 128#32
  let v1916 : BitVec 32 := Scalar.muli arg15 c128_i32_1075
  let v1917 : BitVec 32 := v1916
  let v2918 : Index := Scalar.indexCast v1917
  ![0, 1792, v2918.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x2048x2048 : Shape := ⟨3, ![8, 2048, 2048]⟩
abbrev S8x2048x256 : Shape := ⟨3, ![8, 2048, 256]⟩
abbrev S8x2048x16x128 : Shape := ⟨4, ![8, 2048, 16, 128]⟩
abbrev S8x2048x2x128 : Shape := ⟨4, ![8, 2048, 2, 128]⟩
abbrev S_ : Shape := ⟨0, ![]⟩
abbrev S8x16 : Shape := ⟨2, ![8, 16]⟩
abbrev S8x1x16x1 : Shape := ⟨4, ![8, 1, 16, 1]⟩
abbrev S8x2 : Shape := ⟨2, ![8, 2]⟩
abbrev S8x1x2x1 : Shape := ⟨4, ![8, 1, 2, 1]⟩
abbrev S8x2048x2x8x128 : Shape := ⟨5, ![8, 2048, 2, 8, 128]⟩
abbrev S8x2x8 : Shape := ⟨3, ![8, 2, 8]⟩
abbrev S8x2x1 : Shape := ⟨3, ![8, 2, 1]⟩
abbrev S8x2x1x8x1 : Shape := ⟨5, ![8, 2, 1, 8, 1]⟩
abbrev S8x1x2x1x1 : Shape := ⟨5, ![8, 1, 2, 1, 1]⟩
abbrev S8x2x2048x8x2048 : Shape := ⟨5, ![8, 2, 2048, 8, 2048]⟩
abbrev S8x2x2048x8 : Shape := ⟨4, ![8, 2, 2048, 8]⟩
abbrev S8x2x2048x8x1 : Shape := ⟨5, ![8, 2, 2048, 8, 1]⟩
abbrev S8x2x128x2048x8 : Shape := ⟨5, ![8, 2, 128, 2048, 8]⟩
abbrev S8x2048x2x8x1 : Shape := ⟨5, ![8, 2048, 2, 8, 1]⟩

abbrev nBuf : Space → Nat
  | .hbm => 157
  | .vmem => 0
  | .smem => 0
  | _ => 0

abbrev hbmTy0_0 (i : Nat) : BufTy := match i % 128 with
  | 0 => ⟨S8x2048x2048, .bf16⟩
  | 1 => ⟨S8x2048x256, .bf16⟩
  | 2 => ⟨S8x2048x256, .bf16⟩
  | 3 => ⟨S8x2048x16x128, .bf16⟩
  | 4 => ⟨S8x2048x2x128, .bf16⟩
  | 5 => ⟨S8x2048x2x128, .bf16⟩
  | 6 => ⟨S8x2048x16x128, .f32⟩
  | 7 => ⟨S8x2048x16x128, .f32⟩
  | 8 => ⟨S8x2048x16x128, .f32⟩
  | 9 => ⟨S_, .f32⟩
  | 10 => ⟨S8x16, .f32⟩
  | 11 => ⟨S_, .f32⟩
  | 12 => ⟨S8x16, .f32⟩
  | 13 => ⟨S8x16, .f32⟩
  | 14 => ⟨S_, .f32⟩
  | 15 => ⟨S8x16, .f32⟩
  | 16 => ⟨S8x16, .f32⟩
  | 17 => ⟨S8x16, .f32⟩
  | 18 => ⟨S8x16, .f32⟩
  | 19 => ⟨S8x16, .f32⟩
  | 20 => ⟨S_, .f32⟩
  | 21 => ⟨S8x16, .f32⟩
  | 22 => ⟨S8x16, .f32⟩
  | 23 => ⟨S_, .f32⟩
  | 24 => ⟨S8x16, .f32⟩
  | 25 => ⟨S8x16, .i1⟩
  | 26 => ⟨S_, .f32⟩
  | 27 => ⟨S8x16, .f32⟩
  | 28 => ⟨S8x16, .f32⟩
  | 29 => ⟨S8x16, .f32⟩
  | 30 => ⟨S8x16, .f32⟩
  | 31 => ⟨S8x16, .f32⟩
  | 32 => ⟨S8x16, .f32⟩
  | 33 => ⟨S8x16, .f32⟩
  | 34 => ⟨S8x1x16x1, .f32⟩
  | 35 => ⟨S8x2048x16x128, .f32⟩
  | 36 => ⟨S8x2048x16x128, .f32⟩
  | 37 => ⟨S_, .f32⟩
  | 38 => ⟨S8x2048x16x128, .f32⟩
  | 39 => ⟨S8x2048x16x128, .f32⟩
  | 40 => ⟨S_, .f32⟩
  | 41 => ⟨S8x2048x16x128, .f32⟩
  | 42 => ⟨S8x2048x16x128, .f32⟩
  | 43 => ⟨S8x2048x2x128, .f32⟩
  | 44 => ⟨S8x2048x2x128, .f32⟩
  | 45 => ⟨S8x2048x2x128, .f32⟩
  | 46 => ⟨S_, .f32⟩
  | 47 => ⟨S8x2, .f32⟩
  | 48 => ⟨S_, .f32⟩
  | 49 => ⟨S8x2, .f32⟩
  | 50 => ⟨S8x2, .f32⟩
  | 51 => ⟨S_, .f32⟩
  | 52 => ⟨S8x2, .f32⟩
  | 53 => ⟨S8x2, .f32⟩
  | 54 => ⟨S8x2, .f32⟩
  | 55 => ⟨S8x2, .f32⟩
  | 56 => ⟨S8x2, .f32⟩
  | 57 => ⟨S_, .f32⟩
  | 58 => ⟨S8x2, .f32⟩
  | 59 => ⟨S8x2, .f32⟩
  | 60 => ⟨S_, .f32⟩
  | 61 => ⟨S8x2, .f32⟩
  | 62 => ⟨S8x2, .i1⟩
  | 63 => ⟨S_, .f32⟩
  | 64 => ⟨S8x2, .f32⟩
  | 65 => ⟨S8x2, .f32⟩
  | 66 => ⟨S8x2, .f32⟩
  | 67 => ⟨S8x2, .f32⟩
  | 68 => ⟨S8x2, .f32⟩
  | 69 => ⟨S8x2, .f32⟩
  | 70 => ⟨S8x2, .f32⟩
  | 71 => ⟨S8x1x2x1, .f32⟩
  | 72 => ⟨S8x2048x2x128, .f32⟩
  | 73 => ⟨S8x2048x2x128, .f32⟩
  | 74 => ⟨S_, .f32⟩
  | 75 => ⟨S8x2048x2x128, .f32⟩
  | 76 => ⟨S8x2048x2x128, .f32⟩
  | 77 => ⟨S_, .f32⟩
  | 78 => ⟨S8x2048x2x128, .f32⟩
  | 79 => ⟨S8x2048x2x128, .f32⟩
  | 80 => ⟨S8x2048x2x128, .f32⟩
  | 81 => ⟨S8x2048x2x128, .f32⟩
  | 82 => ⟨S8x2048x2x128, .f32⟩
  | 83 => ⟨S_, .f32⟩
  | 84 => ⟨S8x2, .f32⟩
  | 85 => ⟨S_, .f32⟩
  | 86 => ⟨S8x2, .f32⟩
  | 87 => ⟨S8x2, .f32⟩
  | 88 => ⟨S_, .f32⟩
  | 89 => ⟨S8x2, .f32⟩
  | 90 => ⟨S8x2, .f32⟩
  | 91 => ⟨S8x2, .f32⟩
  | 92 => ⟨S8x2, .f32⟩
  | 93 => ⟨S8x2, .f32⟩
  | 94 => ⟨S_, .f32⟩
  | 95 => ⟨S8x2, .f32⟩
  | 96 => ⟨S8x2, .f32⟩
  | 97 => ⟨S_, .f32⟩
  | 98 => ⟨S8x2, .f32⟩
  | 99 => ⟨S8x2, .i1⟩
  | 100 => ⟨S_, .f32⟩
  | 101 => ⟨S8x2, .f32⟩
  | 102 => ⟨S8x2, .f32⟩
  | 103 => ⟨S8x2, .f32⟩
  | 104 => ⟨S8x2, .f32⟩
  | 105 => ⟨S8x2, .f32⟩
  | 106 => ⟨S8x2, .f32⟩
  | 107 => ⟨S8x2, .f32⟩
  | 108 => ⟨S8x1x2x1, .f32⟩
  | 109 => ⟨S8x2048x2x128, .f32⟩
  | 110 => ⟨S8x2048x2x128, .f32⟩
  | 111 => ⟨S_, .f32⟩
  | 112 => ⟨S8x2048x2x128, .f32⟩
  | 113 => ⟨S8x2048x2x128, .f32⟩
  | 114 => ⟨S_, .f32⟩
  | 115 => ⟨S8x2048x2x128, .f32⟩
  | 116 => ⟨S8x2048x2x128, .f32⟩
  | 117 => ⟨S8x2048x2x8x128, .f32⟩
  | 118 => ⟨S8x2x8, .f32⟩
  | 119 => ⟨S8x2x1, .f32⟩
  | 120 => ⟨S8x2x8, .f32⟩
  | 121 => ⟨S8x2x8, .f32⟩
  | 122 => ⟨S_, .f32⟩
  | 123 => ⟨S8x2x8, .f32⟩
  | 124 => ⟨S8x2x8, .f32⟩
  | 125 => ⟨S8x2x1x8x1, .f32⟩
  | 126 => ⟨S8x1x2x1x1, .f32⟩
  | 127 => ⟨S8x2x2048x8x2048, .f32⟩
  | _ => ⟨S8x2048x2048, .bf16⟩

abbrev hbmTy0_1 (i : Nat) : BufTy := match i % 128 with
  | 0 => ⟨S8x2x2048x8x2048, .f32⟩
  | 1 => ⟨S8x2x2048x8x2048, .f32⟩
  | 2 => ⟨S8x2x2048x8x2048, .i32⟩
  | 3 => ⟨S8x2x2048x8x2048, .i32⟩
  | 4 => ⟨S8x2x2048x8x2048, .i1⟩
  | 5 => ⟨S_, .f32⟩
  | 6 => ⟨S8x2x2048x8x2048, .f32⟩
  | 7 => ⟨S8x2x2048x8x2048, .f32⟩
  | 8 => ⟨S_, .f32⟩
  | 9 => ⟨S8x2x2048x8, .f32⟩
  | 10 => ⟨S8x2x2048x8x1, .f32⟩
  | 11 => ⟨S8x2x2048x8x2048, .f32⟩
  | 12 => ⟨S8x2x2048x8x2048, .f32⟩
  | 13 => ⟨S8x2x2048x8x2048, .f32⟩
  | 14 => ⟨S_, .f32⟩
  | 15 => ⟨S8x2x2048x8, .f32⟩
  | 16 => ⟨S8x2x2048x8x1, .f32⟩
  | 17 => ⟨S8x2x128x2048x8, .f32⟩
  | 18 => ⟨S8x2048x2x8x128, .f32⟩
  | 19 => ⟨S8x2048x2x8x128, .f32⟩
  | 20 => ⟨S8x2048x2x8x128, .f32⟩
  | 21 => ⟨S8x2048x2x8x1, .f32⟩
  | 22 => ⟨S8x2048x2x8x128, .f32⟩
  | 23 => ⟨S8x2048x2x8x128, .f32⟩
  | 24 => ⟨S8x2048x2x8x128, .bf16⟩
  | 25 => ⟨S8x2048x2048, .bf16⟩
  | 26 => ⟨S8x2048x16x128, .fp8e4m3⟩
  | 27 => ⟨S8x2048x2x128, .fp8e4m3⟩
  | 28 => ⟨S8x2048x2x128, .fp8e4m3⟩
  | _ => ⟨S8x2048x2048, .bf16⟩

abbrev hbmTy (i : Nat) : BufTy := match i / 128 with
  | 0 => hbmTy0_0 i
  | 1 => hbmTy0_1 i
  | _ => ⟨S8x2048x2048, .bf16⟩

abbrev bufTy : (tb : Table) → Fin (tcTables nBuf tb) → BufTy
  | .hbm, ⟨i, _⟩ => hbmTy i
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_cst_16 : Ref sig .tc := ⟨.hbm, 85, rfl⟩
abbrev main_v65 : Ref sig .tc := ⟨.hbm, 86, rfl⟩
abbrev main_v66 : Ref sig .tc := ⟨.hbm, 87, rfl⟩
abbrev main_cst_17 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_cst_19 : Ref sig .tc := ⟨.hbm, 97, rfl⟩
abbrev main_v74 : Ref sig .tc := ⟨.hbm, 98, rfl⟩
abbrev main_v75 : Ref sig .tc := ⟨.hbm, 99, rfl⟩
abbrev main_cst_20 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_21 : Ref sig .tc := ⟨.hbm, 111, rfl⟩
abbrev main_v86 : Ref sig .tc := ⟨.hbm, 112, rfl⟩
abbrev main_v87 : Ref sig .tc := ⟨.hbm, 113, rfl⟩
abbrev main_cst_22 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_23 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_24 : Ref sig .tc := ⟨.hbm, 133, rfl⟩
abbrev main_v105 : Ref sig .tc := ⟨.hbm, 134, rfl⟩
abbrev main_v106 : Ref sig .tc := ⟨.hbm, 135, rfl⟩
abbrev main_cst_25 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_26 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩

abbrev nD : Nat := 1
abbrev τ : Topo := Topo.v7x

variable {F : FTy → Type} [FloatOps F]
-- ==== Proof.RunI.lean ====
module

public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the launch. -/
local notation "𝕄" => MT nD τ sig Unit (Elt F) ℕ (UR sig nD τ) ℕ

set_option maxHeartbeats 4000000 in
/-- THE BODY'S RUN at one grid point, on any whole memrefs: the three inputs `arg2`, `arg3`, `arg4` are read at `X_·` and kept;
    the six buffers that the prelude fills whole (codes, scales, transposed value codes) end at contents `K_·` that only the
    inputs fix; the output and the two scratch buffers of the loop end with a list of pieces `L_·` written over what was
    found there (the loop over the query heads goes by its invariant `loopInv_k0_t1`). -/
@[irreducible] def bodyRun (𝒱 : Variants) (c : Dev nD) (bd : Option 𝒱.V) (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x8x2048x128 .fp8e4m3) (harg6 : arg6.IsWhole) (arg7 : Memref sig .tc .vmem S1x1x8x128 .f32) (harg7 : arg7.IsWhole) (arg8 : Memref sig .tc .vmem S1x1x2048x128 .fp8e4m3) (harg8 : arg8.IsWhole) (arg9 : Memref sig .tc .vmem S1x1x1x128 .f32) (harg9 : arg9.IsWhole) (arg10 : Memref sig .tc .vmem S1x1x2048x128 .fp8e4m3) (harg10 : arg10.IsWhole) (arg11 : Memref sig .tc .vmem S1x1x1x128 .f32) (harg11 : arg11.IsWhole) (arg12 : Memref sig .tc .vmem S128x2048 .fp8e4m3) (harg12 : arg12.IsWhole) (arg13 : Memref sig .tc .vmem S2x2048x256 .f32) (harg13 : arg13.IsWhole) (arg14 : Memref sig .tc .vmem S2x2048x256 .fp8e4m3) (harg14 : arg14.IsWhole) (X_arg2 : BufTy.Contents (Elt F) arg2.view.ty) (X_arg3 : BufTy.Contents (Elt F) arg3.view.ty) (X_arg4 : BufTy.Contents (Elt F) arg4.view.ty) :
    Σ' (L_arg5 : (BufTy.Contents (Elt F) arg5.view.ty → BufTy.Contents (Elt F) arg13.view.ty → BufTy.Contents (Elt F) arg14.view.ty → List (View.Piece (Elt F) S1x2048x1024 .bf16))),
      Σ' (K_arg6 : BufTy.Contents (Elt F) arg6.view.ty),
      Σ' (K_arg7 : BufTy.Contents (Elt F) arg7.view.ty),
      Σ' (K_arg8 : BufTy.Contents (Elt F) arg8.view.ty),
      Σ' (K_arg9 : BufTy.Contents (Elt F) arg9.view.ty),
      Σ' (K_arg10 : BufTy.Contents (Elt F) arg10.view.ty),
      Σ' (K_arg11 : BufTy.Contents (Elt F) arg11.view.ty),
      Σ' (K_arg12 : BufTy.Contents (Elt F) arg12.view.ty),
      Σ' (L_arg13 : (BufTy.Contents (Elt F) arg5.view.ty → BufTy.Contents (Elt F) arg13.view.ty → BufTy.Contents (Elt F) arg14.view.ty → List (View.Piece (Elt F) S2x2048x256 .f32))),
      { L_arg14 : (BufTy.Contents (Elt F) arg5.view.ty → BufTy.Contents (Elt F) arg13.view.ty → BufTy.Contents (Elt F) arg14.view.ty → List (View.Piece (Elt F) S2x2048x256 .fp8e4m3)) // ∀ (E : Set ℕ) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14)) : sProp 𝕄)
      ⊢ wp frame (wpE (defs₀ (F := F)) 𝒱 (c : Thread nD τ) bd) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} (arg5.view.writes (Elt F) f_arg5 (L_arg5 f_arg5 f_arg13 f_arg14))) ∗ (arg6.view.loc (c : Thread nD τ) ↦[arg6.view.set]{fullShare} K_arg6) ∗ (arg7.view.loc (c : Thread nD τ) ↦[arg7.view.set]{fullShare} K_arg7) ∗ (arg8.view.loc (c : Thread nD τ) ↦[arg8.view.set]{fullShare} K_arg8) ∗ (arg9.view.loc (c : Thread nD τ) ↦[arg9.view.set]{fullShare} K_arg9) ∗ (arg10.view.loc (c : Thread nD τ) ↦[arg10.view.set]{fullShare} K_arg10) ∗ (arg11.view.loc (c : Thread nD τ) ↦[arg11.view.set]{fullShare} K_arg11) ∗ (arg12.view.loc (c : Thread nD τ) ↦[arg12.view.set]{fullShare} K_arg12) ∗ (arg13.view.loc (c : Thread nD τ) ↦[arg13.view.set]{fullShare} (arg13.view.writes (Elt F) f_arg13 (L_arg13 f_arg5 f_arg13 f_arg14))) ∗ (arg14.view.loc (c : Thread nD τ) ↦[arg14.view.set]{fullShare} (arg14.view.writes (Elt F) f_arg14 (L_arg14 f_arg5 f_arg13 f_arg14))))) } := by
  refine ⟨?_, ?_, ?_, ?_, ?_, ?_, ?_, ?_, ?_, ?_, fun E f_arg5 f_arg6 f_arg7 f_arg8 f_arg9 f_arg10 f_arg11 f_arg12 f_arg13 f_arg14 => ?run⟩
  case run =>
    iintro ⟨Harg2, Harg3, Harg4, Harg5, Harg6, Harg7, Harg8, Harg9, Harg10, Harg11, Harg12, Harg13, Harg14⟩
    sl_unfold [cc0_fp8_gqa_attention]
    sl_exec
    sl_step
    sl_close

end Cert.KernelIdeal.Gen

end
-- ==== Proof.LoopI.lean ====
module

public import proofs.«01_k».proof.Proof.Gen.KernelIdeal.Loops
public import proofs.«01_k».proof.Proof.Gen.KernelIdeal.Frame

/-!
The loop over the query heads, as far as its geometry goes: trip `k` writes eight blocks of 256 rows into columns
`128 k .. 128 k + 127` of the output block, whatever it found there, and the eight trips together cover the block.
-/

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F] [Named F]

/-! ### Where trip `k` stores its eight output blocks -/

theorem off3_eq : ∀ k : Fin k0_t1_loop.trips, k0_off3 k = ![0, 0, 128 * k.val] := by decide +kernel
theorem off5_eq : ∀ k : Fin k0_t1_loop.trips, k0_off5 k = ![0, 256, 128 * k.val] := by decide +kernel
theorem off7_eq : ∀ k : Fin k0_t1_loop.trips, k0_off7 k = ![0, 512, 128 * k.val] := by decide +kernel
theorem off9_eq : ∀ k : Fin k0_t1_loop.trips, k0_off9 k = ![0, 768, 128 * k.val] := by decide +kernel
theorem off11_eq : ∀ k : Fin k0_t1_loop.trips, k0_off11 k = ![0, 1024, 128 * k.val] := by decide +kernel
theorem off13_eq : ∀ k : Fin k0_t1_loop.trips, k0_off13 k = ![0, 1280, 128 * k.val] := by decide +kernel
theorem off15_eq : ∀ k : Fin k0_t1_loop.trips, k0_off15 k = ![0, 1536, 128 * k.val] := by decide +kernel
theorem off17_eq : ∀ k : Fin k0_t1_loop.trips, k0_off17 k = ![0, 1792, 128 * k.val] := by decide +kernel

theorem trips_eq : k0_t1_loop.trips = 8 := by decide +kernel

variable (𝒱 : Variants) (c : Dev nD) (bd : Option 𝒱.V) (i : grid0.Coords)
  (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x1024 .bf16) (harg5 : arg5.IsWhole)
  (arg6 : Memref sig .tc .vmem S1x8x2048x128 .fp8e4m3) (harg6 : arg6.IsWhole)
  (arg7 : Memref sig .tc .vmem S1x1x8x128 .f32) (harg7 : arg7.IsWhole)
  (arg8 : Memref sig .tc .vmem S1x1x2048x128 .fp8e4m3) (harg8 : arg8.IsWhole)
  (arg9 : Memref sig .tc .vmem S1x1x1x128 .f32) (harg9 : arg9.IsWhole)
  (arg10 : Memref sig .tc .vmem S1x1x2048x128 .fp8e4m3) (harg10 : arg10.IsWhole)
  (arg11 : Memref sig .tc .vmem S1x1x1x128 .f32) (harg11 : arg11.IsWhole)
  (arg12 : Memref sig .tc .vmem S128x2048 .fp8e4m3) (harg12 : arg12.IsWhole)
  (arg13 : Memref sig .tc .vmem S2x2048x256 .f32) (harg13 : arg13.IsWhole)
  (arg14 : Memref sig .tc .vmem S2x2048x256 .fp8e4m3) (harg14 : arg14.IsWhole)
  (v590 : FVec F S1x1 .f32) (v591 : FVec F S1x1 .f32)
  (X_arg6 : BufTy.Contents (Elt F) arg6.view.ty) (X_arg7 : BufTy.Contents (Elt F) arg7.view.ty)
  (X_arg8 : BufTy.Contents (Elt F) arg8.view.ty) (X_arg12 : BufTy.Contents (Elt F) arg12.view.ty)

/-- The pieces one trip writes into the output block: eight row blocks, with values that do not depend on what the trip
    found in the buffers it writes. -/
theorem trip_pieces (k : Fin k0_t1_loop.trips) : ∃ w : Fin 8 → (S1x256x128.Idx → Elt F .bf16), ∀ f g h,
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h = [⟨Rect.unit (s := S1x2048x1024) (k0_off17 k) S1x256x128.size (k0_off17_inb k), w 7⟩, ⟨Rect.unit (s := S1x2048x1024) (k0_off15 k) S1x256x128.size (k0_off15_inb k), w 6⟩, ⟨Rect.unit (s := S1x2048x1024) (k0_off13 k) S1x256x128.size (k0_off13_inb k), w 5⟩, ⟨Rect.unit (s := S1x2048x1024) (k0_off11 k) S1x256x128.size (k0_off11_inb k), w 4⟩, ⟨Rect.unit (s := S1x2048x1024) (k0_off9 k) S1x256x128.size (k0_off9_inb k), w 3⟩, ⟨Rect.unit (s := S1x2048x1024) (k0_off7 k) S1x256x128.size (k0_off7_inb k), w 2⟩, ⟨Rect.unit (s := S1x2048x1024) (k0_off5 k) S1x256x128.size (k0_off5_inb k), w 1⟩, ⟨Rect.unit (s := S1x2048x1024) (k0_off3 k) S1x256x128.size (k0_off3_inb k), w 0⟩] := by
  refine ⟨![?_, ?_, ?_, ?_, ?_, ?_, ?_, ?_], fun f g h => ?main⟩
  case main =>
    delta trip_k0_t1
    rfl

/-- An index of the output block in the column range of head `k` lies in one of trip `k`'s pieces. -/
theorem trip_cover (k : Fin k0_t1_loop.trips) (f g h) (y : S1x2048x1024.Idx) (h1 : 128 * k.val ≤ (y 2).val) (h2 : (y 2).val < 128 * k.val + 128) :
    ∃ p ∈ (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h, y ∈ p.1.set := by
  obtain ⟨w, hw⟩ := trip_pieces 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k
  rw [hw f g h]
  have y0 : (y 0).val < 1 := (y 0).isLt
  have y1 : (y 1).val < 2048 := (y 1).isLt
  have key : ∀ (r : ℕ) (off : Fin 3 → ℕ) (ho : off = ![0, r, 128 * k.val]) (inb), r ≤ (y 1).val → (y 1).val < r + 256 →
      y ∈ (Rect.unit (s := S1x2048x1024) off S1x256x128.size inb).set := by
    intro r off ho inb hr hr'
    subst ho
    rw [Rect.mem_set_unit]
    intro a
    fin_cases a
    · exact ⟨Nat.zero_le _, y0⟩
    · exact ⟨hr, hr'⟩
    · exact ⟨h1, h2⟩
  rcases (by omega : (y 1).val < 256 ∨ (256 ≤ (y 1).val ∧ (y 1).val < 512) ∨ (512 ≤ (y 1).val ∧ (y 1).val < 768)
      ∨ (768 ≤ (y 1).val ∧ (y 1).val < 1024) ∨ (1024 ≤ (y 1).val ∧ (y 1).val < 1280) ∨ (1280 ≤ (y 1).val ∧ (y 1).val < 1536)
      ∨ (1536 ≤ (y 1).val ∧ (y 1).val < 1792) ∨ (1792 ≤ (y 1).val)) with h | h | h | h | h | h | h | h
  · exact ⟨⟨Rect.unit (s := S1x2048x1024) (k0_off3 k) S1x256x128.size (k0_off3_inb k), w 0⟩,
      List.mem_of_getElem? (i := 7) rfl, key 0 _ (off3_eq k) (k0_off3_inb k) (by omega) (by omega)⟩
  · exact ⟨⟨Rect.unit (s := S1x2048x1024) (k0_off5 k) S1x256x128.size (k0_off5_inb k), w 1⟩,
      List.mem_of_getElem? (i := 6) rfl, key 256 _ (off5_eq k) (k0_off5_inb k) (by omega) (by omega)⟩
  · exact ⟨⟨Rect.unit (s := S1x2048x1024) (k0_off7 k) S1x256x128.size (k0_off7_inb k), w 2⟩,
      List.mem_of_getElem? (i := 5) rfl, key 512 _ (off7_eq k) (k0_off7_inb k) (by omega) (by omega)⟩
  · exact ⟨⟨Rect.unit (s := S1x2048x1024) (k0_off9 k) S1x256x128.size (k0_off9_inb k), w 3⟩,
      List.mem_of_getElem? (i := 4) rfl, key 768 _ (off9_eq k) (k0_off9_inb k) (by omega) (by omega)⟩
  · exact ⟨⟨Rect.unit (s := S1x2048x1024) (k0_off11 k) S1x256x128.size (k0_off11_inb k), w 4⟩,
      List.mem_of_getElem? (i := 3) rfl, key 1024 _ (off11_eq k) (k0_off11_inb k) (by omega) (by omega)⟩
  · exact ⟨⟨Rect.unit (s := S1x2048x1024) (k0_off13 k) S1x256x128.size (k0_off13_inb k), w 5⟩,
      List.mem_of_getElem? (i := 2) rfl, key 1280 _ (off13_eq k) (k0_off13_inb k) (by omega) (by omega)⟩
  · exact ⟨⟨Rect.unit (s := S1x2048x1024) (k0_off15 k) S1x256x128.size (k0_off15_inb k), w 6⟩,
      List.mem_of_getElem? (i := 1) rfl, key 1536 _ (off15_eq k) (k0_off15_inb k) (by omega) (by omega)⟩
  · exact ⟨⟨Rect.unit (s := S1x2048x1024) (k0_off17 k) S1x256x128.size (k0_off17_inb k), w 7⟩,
      List.mem_of_getElem? (i := 0) rfl, key 1792 _ (off17_eq k) (k0_off17_inb k) (by omega) (by omega)⟩

variable (G_arg5 : BufTy.Contents (Elt F) arg5.view.ty) (G_arg13 : BufTy.Contents (Elt F) arg13.view.ty)
  (G_arg14 : BufTy.Contents (Elt F) arg14.view.ty)

/-- What holds of every piece of every trip holds of every piece of the loop. -/
theorem loop_forall (P : View.Piece (Elt F) S1x2048x1024 .bf16 → Prop)
    (hP : ∀ k f g h, ∀ p ∈ (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h, P p) :
    ∀ n ≤ k0_t1_loop.trips, ∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1, P p
  | 0, _, p, hp => by rw [pb_k0_t1.eq_1] at hp; exact absurd hp List.not_mem_nil
  | n + 1, hn, p, hp => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    dsimp only at e
    rw [e] at hp
    rcases List.mem_append.mp hp with hp | hp
    · exact hP ⟨n, hn⟩ _ _ _ p hp
    · exact loop_forall P hP n (Nat.le_of_succ_le hn) p hp

/-- The trips before `n` cover the columns below `128 n`. -/
theorem loop_cover : ∀ n ≤ k0_t1_loop.trips, ∀ y : S1x2048x1024.Idx, (y 2).val < 128 * n →
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1, y ∈ p.1.set
  | 0, _, y, hy => absurd hy (by omega)
  | n + 1, hn, y, hy => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    dsimp only at e
    rw [e]
    by_cases h : (y 2).val < 128 * n
    · obtain ⟨p, hp, hy⟩ := loop_cover n (Nat.le_of_succ_le hn) y h
      exact ⟨p, List.mem_append_right _ hp, hy⟩
    · obtain ⟨p, hp, hy⟩ := trip_cover 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 ⟨n, hn⟩ _ _ _ y (by simp only; omega) (by simp only; omega)
      exact ⟨p, List.mem_append_left _ hp, hy⟩

/-- The output pieces of the loop do not depend on what the loop found in the buffers it writes. -/
theorem loop_const (G5 : BufTy.Contents (Elt F) arg5.view.ty) (G13 : BufTy.Contents (Elt F) arg13.view.ty)
    (G14 : BufTy.Contents (Elt F) arg14.view.ty) : ∀ n ≤ k0_t1_loop.trips,
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1 = (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G5 G13 G14 n).1
  | 0, _ => by rw [pb_k0_t1.eq_1, pb_k0_t1.eq_1]
  | n + 1, hn => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    have e' := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G5 G13 G14 ⟨n, hn⟩
    dsimp only at e e'
    rw [e, e']
    dsimp only
    obtain ⟨w, hw⟩ := trip_pieces 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 ⟨n, hn⟩
    rw [hw, hw, loop_const G5 G13 G14 n (Nat.le_of_succ_le hn)]

end Cert.KernelIdeal.Gen

end
-- ==== Proof.FrameI.lean ====
module

public import proofs.«01_k».proof.Proof.RunI
public import proofs.«01_k».proof.Proof.LoopI
public import Idealize.ShloMosaic.Lib.Pipeline.FrameBody
public import Idealize.ShloMosaic.Lib.Pipeline.FrameSuffix
public import Idealize.ShloMosaic.Lib.Claim

/-!
The launch: what the body leaves in each output block at each grid point, the body obligation, and the run of the whole
program — the arguments unchanged, every semaphore back at zero, and each result array written with the blocks left by
the body.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the launch. -/
local notation "𝕄" => MT nD τ sig Unit (Elt F) ℕ (UR sig nD τ) ℕ

variable (m : (ℓ : Loc nD τ sig) → Buf (Elt F) ℓ) (ρ : Dev nD → PrngReg)

/-- The body's run at point `t`, on the staging buffers of that point holding the point's input blocks. -/
def runAt (c : Dev nD) (t : Fin cfg0.N) := bodyRun (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t))

/-- The output pieces that the body writes at point `t` cover the output block, whatever was there; -/
theorem out_cover (c : Dev nD) (t : Fin cfg0.N) (f g h) : ∀ y, ∃ p ∈ (runAt m c t).1 f g h, y ∈ p.1.set := by
  intro y
  have hy : (y 2).val < 128 * 8 := (y 2).isLt
  delta runAt bodyRun
  dsimp only
  exact loop_cover _ _ _ _ _ _ _ _ _ _ _ _ _ _ _ _ _ _ _ _ _ _ _ _ _ _ _ _ _ _ _ _ _ _ _ _ _ _ _ _ le_rfl y (by rw [trips_eq]; exact hy)

/-- and they are the same whatever was there. -/
theorem out_const (c : Dev nD) (t : Fin cfg0.N) (f g h f' g' h') : (runAt m c t).1 f g h = (runAt m c t).1 f' g' h' := by
  delta runAt bodyRun
  dsimp only
  exact loop_const _ _ _ _ _ _ _ _ _ _ _ _ _ _ _ _ _ _ _ _ _ _ _ _ _ _ _ _ _ _ _ _ _ _ _ _ _ _ _ _ _ _ _ le_rfl

/-- The attention block that the body leaves at point `t`. -/
def out0_3 (c : Dev nD) (t : Fin cfg0.N) := View.canon ((runAt m c t).1 (st0_3 t).view.junk (Memref.whole cc0_scratch1).view.junk (Memref.whole cc0_scratch2).view.junk)

/-- The query codes that the body leaves at point `t`. -/
def out0_4 (c : Dev nD) (t : Fin cfg0.N) := (st0_4 t).view.read (Elt F) (runAt m c t).2.1

/-- The query scales that the body leaves at point `t`. -/
def out0_5 (c : Dev nD) (t : Fin cfg0.N) := (st0_5 t).view.read (Elt F) (runAt m c t).2.2.1

/-- The key codes that the body leaves at point `t`. -/
def out0_6 (c : Dev nD) (t : Fin cfg0.N) := (st0_6 t).view.read (Elt F) (runAt m c t).2.2.2.1

/-- The key scale that the body leaves at point `t`. -/
def out0_7 (c : Dev nD) (t : Fin cfg0.N) := (st0_7 t).view.read (Elt F) (runAt m c t).2.2.2.2.1

/-- The value codes that the body leaves at point `t`. -/
def out0_8 (c : Dev nD) (t : Fin cfg0.N) := (st0_8 t).view.read (Elt F) (runAt m c t).2.2.2.2.2.1

/-- The value scale that the body leaves at point `t`. -/
def out0_9 (c : Dev nD) (t : Fin cfg0.N) := (st0_9 t).view.read (Elt F) (runAt m c t).2.2.2.2.2.2.1

attribute [irreducible] runAt

/-- The proof data of the one pipeline on core `c`: the arrays as launched; after the body each input's buffer at its block
    and each output's at what the body leaves; the three scratch buffers at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 m c t
    | ⟨4, _⟩ => out0_4 m c t
    | ⟨5, _⟩ => out0_5 m c t
    | ⟨6, _⟩ => out0_6 m c t
    | ⟨7, _⟩ => out0_7 m c t
    | ⟨8, _⟩ => out0_8 m c t
    | ⟨9, _⟩ => out0_9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 m c t := by dsimp only [dats]
theorem after0_4 (c : Dev nD) (t : Fin cfg0.N) : (dats m 0 c).after 4 t = out0_4 m c t := by dsimp only [dats]
theorem after0_5 (c : Dev nD) (t : Fin cfg0.N) : (dats m 0 c).after 5 t = out0_5 m c t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]
theorem after0_8 (c : Dev nD) (t : Fin cfg0.N) : (dats m 0 c).after 8 t = out0_8 m c t := by dsimp only [dats]
theorem after0_9 (c : Dev nD) (t : Fin cfg0.N) : (dats m 0 c).after 9 t = out0_9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A scratch buffer held whole is its whole memref held whole; -/
theorem to_whole (c : Dev nD) (b : Ref sig .tc) (f : Buf (Elt F) ((c : Thread nD τ).loc b)) :
    ((((c : Thread nD τ).loc b) ↦{fullShare} f) : sProp 𝕄) ⊢ ((Memref.whole b).view.loc (c : Thread nD τ) ↦[(Memref.whole b).view.set]{fullShare} f) := by
  rw [(Memref.isWhole_whole b).set_eq_univ]
/-- and back. -/
theorem of_whole (c : Dev nD) (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := by
  rw [(Memref.isWhole_whole b).set_eq_univ]

/-- Before the body at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
/-- After the body at point `t`. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

set_option maxHeartbeats 4000000 in
/-- The body runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, after0_0, after0_1, after0_2, after0_3, after0_4, after0_5, after0_6, after0_7, after0_8, after0_9]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq]
  unfold owns
  iintro ⟨⟨⟨⟨%f10, H10⟩, ⟨%f11, H11⟩, ⟨%f12, H12⟩⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  have run := (runAt m c t).2.2.2.2.2.2.2.2.2.2 Set.univ f3 f4 f5 f6 f7 f8 f9 f10 f11 f12
  iapply (wp_wand_r Idealize.ShloMosaic.frame (wpE (defs₀ (F := F)) Variants.none (c : Thread nD τ) none) Set.univ)
  isplitl [H0 H1 H2 H3 H4 H5 H6 H7 H8 H9 H10 H11 H12]
  · iapply run
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (to_whole c cc0_scratch0 f10) $$ H10
    isplitl [H11]; · iapply (to_whole c cc0_scratch1 f11) $$ H11
    iapply (to_whole c cc0_scratch2 f12) $$ H12
  iintro %_ ⟨H0, H1, H2, H3, H4, H5, H6, H7, H8, H9, H10, H11, H12⟩
  isplitl [Hr H10 H11 H12]
  · isplitl [H10 H11 H12]
    · isplitl [H10]; · iexists _; iapply (of_whole c cc0_scratch0 _) $$ H10
      isplitl [H11]; · iexists _; iapply (of_whole c cc0_scratch1 _) $$ H11
      iexists _; iapply (of_whole c cc0_scratch2 _) $$ H12
    · iexact Hr
  isplitl [Ho]; · iexact Ho
  isplitl [H0]
  · iexists _; isplitr
    swap; · iexact H0
    ipureintro; exact (hstage0_0 ((cfg0.slots t 0).cast nbuf0_0)).read_unread _
  isplitl [H1]
  · iexists _; isplitr
    swap; · iexact H1
    ipureintro; exact (hstage0_1 ((cfg0.slots t 1).cast nbuf0_1)).read_unread _
  isplitl [H2]
  · iexists _; isplitr
    swap; · iexact H2
    ipureintro; exact (hstage0_2 ((cfg0.slots t 2).cast nbuf0_2)).read_unread _
  isplitl [H3]
  · iexists _; isplitr
    swap; · iexact H3
    ipureintro
    exact (View.read_writes_eq_canon _ _ _ (out_cover m c t _ _ _)).trans (congrArg View.canon (out_const m c t _ _ _ _ _ _))
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  iexists _; isplitr
  swap; · iexact H9
  ipureintro; rfl

theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to the frame's post, every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun _ => Dat.share_full _ (fun _ => rfl)) (howed := fun _ _ => rfl) (V₀ := V0 m) (opss := [hostOps1]) (hsub := sfx_sub) (hfresh := sfx_fresh) (hkeep := sfx_keeps) (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every semaphore is back at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Idealize.ShloMosaic.θ_run_and (frame_of m ρ (dats m) (A_eq m) (run_main m ρ)) ((θ_run defs _ _).mono (fun _ h => h.2) (run_main_quiescent m ρ))

end Cert.KernelIdeal.Gen

end
-- ==== Proof.RunK.lean ====
module

public import proofs.«01_k».proof.Proof.Gen.Kernel.Loops
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

set_option maxHeartbeats 4000000 in
/-- THE BODY'S RUN at one grid point, on any whole memrefs: the three inputs `arg2`, `arg3`, `arg4` are read at `X_·` and kept;
    the six buffers that the prelude fills whole (codes, scales, transposed value codes) end at contents `K_·` that only the
    inputs fix; the output and the two scratch buffers of the loop end with a list of pieces `L_·` written over what was
    found there (the loop over the query heads goes by its invariant `loopInv_k0_t1`). -/
@[irreducible] def bodyRun (𝒱 : Variants) (c : Dev nD) (bd : Option 𝒱.V) (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x8x2048x128 .fp8e4m3) (harg6 : arg6.IsWhole) (arg7 : Memref sig .tc .vmem S1x1x8x128 .f32) (harg7 : arg7.IsWhole) (arg8 : Memref sig .tc .vmem S1x1x2048x128 .fp8e4m3) (harg8 : arg8.IsWhole) (arg9 : Memref sig .tc .vmem S1x1x1x128 .f32) (harg9 : arg9.IsWhole) (arg10 : Memref sig .tc .vmem S1x1x2048x128 .fp8e4m3) (harg10 : arg10.IsWhole) (arg11 : Memref sig .tc .vmem S1x1x1x128 .f32) (harg11 : arg11.IsWhole) (arg12 : Memref sig .tc .vmem S128x2048 .fp8e4m3) (harg12 : arg12.IsWhole) (arg13 : Memref sig .tc .vmem S2x2048x256 .f32) (harg13 : arg13.IsWhole) (arg14 : Memref sig .tc .vmem S2x2048x256 .fp8e4m3) (harg14 : arg14.IsWhole) (X_arg2 : BufTy.Contents (Elt F) arg2.view.ty) (X_arg3 : BufTy.Contents (Elt F) arg3.view.ty) (X_arg4 : BufTy.Contents (Elt F) arg4.view.ty) :
    Σ' (L_arg5 : (BufTy.Contents (Elt F) arg5.view.ty → BufTy.Contents (Elt F) arg13.view.ty → BufTy.Contents (Elt F) arg14.view.ty → List (View.Piece (Elt F) S1x2048x1024 .bf16))),
      Σ' (K_arg6 : BufTy.Contents (Elt F) arg6.view.ty),
      Σ' (K_arg7 : BufTy.Contents (Elt F) arg7.view.ty),
      Σ' (K_arg8 : BufTy.Contents (Elt F) arg8.view.ty),
      Σ' (K_arg9 : BufTy.Contents (Elt F) arg9.view.ty),
      Σ' (K_arg10 : BufTy.Contents (Elt F) arg10.view.ty),
      Σ' (K_arg11 : BufTy.Contents (Elt F) arg11.view.ty),
      Σ' (K_arg12 : BufTy.Contents (Elt F) arg12.view.ty),
      Σ' (L_arg13 : (BufTy.Contents (Elt F) arg5.view.ty → BufTy.Contents (Elt F) arg13.view.ty → BufTy.Contents (Elt F) arg14.view.ty → List (View.Piece (Elt F) S2x2048x256 .f32))),
      { L_arg14 : (BufTy.Contents (Elt F) arg5.view.ty → BufTy.Contents (Elt F) arg13.view.ty → BufTy.Contents (Elt F) arg14.view.ty → List (View.Piece (Elt F) S2x2048x256 .fp8e4m3)) // ∀ (E : Set ℕ) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14)) : sProp 𝕄)
      ⊢ wp frame (wpE (defs₀ (F := F)) 𝒱 (c : Thread nD τ) bd) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} (arg5.view.writes (Elt F) f_arg5 (L_arg5 f_arg5 f_arg13 f_arg14))) ∗ (arg6.view.loc (c : Thread nD τ) ↦[arg6.view.set]{fullShare} K_arg6) ∗ (arg7.view.loc (c : Thread nD τ) ↦[arg7.view.set]{fullShare} K_arg7) ∗ (arg8.view.loc (c : Thread nD τ) ↦[arg8.view.set]{fullShare} K_arg8) ∗ (arg9.view.loc (c : Thread nD τ) ↦[arg9.view.set]{fullShare} K_arg9) ∗ (arg10.view.loc (c : Thread nD τ) ↦[arg10.view.set]{fullShare} K_arg10) ∗ (arg11.view.loc (c : Thread nD τ) ↦[arg11.view.set]{fullShare} K_arg11) ∗ (arg12.view.loc (c : Thread nD τ) ↦[arg12.view.set]{fullShare} K_arg12) ∗ (arg13.view.loc (c : Thread nD τ) ↦[arg13.view.set]{fullShare} (arg13.view.writes (Elt F) f_arg13 (L_arg13 f_arg5 f_arg13 f_arg14))) ∗ (arg14.view.loc (c : Thread nD τ) ↦[arg14.view.set]{fullShare} (arg14.view.writes (Elt F) f_arg14 (L_arg14 f_arg5 f_arg13 f_arg14))))) } := by
  refine ⟨?_, ?_, ?_, ?_, ?_, ?_, ?_, ?_, ?_, ?_, fun E f_arg5 f_arg6 f_arg7 f_arg8 f_arg9 f_arg10 f_arg11 f_arg12 f_arg13 f_arg14 => ?run⟩
  case run =>
    iintro ⟨Harg2, Harg3, Harg4, Harg5, Harg6, Harg7, Harg8, Harg9, Harg10, Harg11, Harg12, Harg13, Harg14⟩
    sl_unfold [cc0_fp8_gqa_attention]
    sl_exec
    sl_step
    sl_close

end Cert.Kernel.Gen

end
-- ==== Proof.LoopK.lean ====
module

public import proofs.«01_k».proof.Proof.Gen.Kernel.Loops
public import proofs.«01_k».proof.Proof.Gen.Kernel.Frame

/-!
The loop over the query heads, as far as its geometry goes: trip `k` writes eight blocks of 256 rows into columns
`128 k .. 128 k + 127` of the output block, whatever it found there, and the eight trips together cover the block.
-/

@[expose] public section

set_option maxRecDepth 16384

noncomputable section

namespace Cert.Kernel.Gen

open Idealize.ShloMosaic Idealize.ShloMosaic.TcCoe Idealize.ShloMosaic.Tactic
open Idealize.SL Idealize.SL.Sem

variable {F : FTy → Type} [FloatOps F]

/-! ### Where trip `k` stores its eight output blocks -/

theorem off3_eq : ∀ k : Fin k0_t1_loop.trips, k0_off3 k = ![0, 0, 128 * k.val] := by decide +kernel
theorem off5_eq : ∀ k : Fin k0_t1_loop.trips, k0_off5 k = ![0, 256, 128 * k.val] := by decide +kernel
theorem off7_eq : ∀ k : Fin k0_t1_loop.trips, k0_off7 k = ![0, 512, 128 * k.val] := by decide +kernel
theorem off9_eq : ∀ k : Fin k0_t1_loop.trips, k0_off9 k = ![0, 768, 128 * k.val] := by decide +kernel
theorem off11_eq : ∀ k : Fin k0_t1_loop.trips, k0_off11 k = ![0, 1024, 128 * k.val] := by decide +kernel
theorem off13_eq : ∀ k : Fin k0_t1_loop.trips, k0_off13 k = ![0, 1280, 128 * k.val] := by decide +kernel
theorem off15_eq : ∀ k : Fin k0_t1_loop.trips, k0_off15 k = ![0, 1536, 128 * k.val] := by decide +kernel
theorem off17_eq : ∀ k : Fin k0_t1_loop.trips, k0_off17 k = ![0, 1792, 128 * k.val] := by decide +kernel

theorem trips_eq : k0_t1_loop.trips = 8 := by decide +kernel

variable (𝒱 : Variants) (c : Dev nD) (bd : Option 𝒱.V) (i : grid0.Coords)
  (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x1024 .bf16) (harg5 : arg5.IsWhole)
  (arg6 : Memref sig .tc .vmem S1x8x2048x128 .fp8e4m3) (harg6 : arg6.IsWhole)
  (arg7 : Memref sig .tc .vmem S1x1x8x128 .f32) (harg7 : arg7.IsWhole)
  (arg8 : Memref sig .tc .vmem S1x1x2048x128 .fp8e4m3) (harg8 : arg8.IsWhole)
  (arg9 : Memref sig .tc .vmem S1x1x1x128 .f32) (harg9 : arg9.IsWhole)
  (arg10 : Memref sig .tc .vmem S1x1x2048x128 .fp8e4m3) (harg10 : arg10.IsWhole)
  (arg11 : Memref sig .tc .vmem S1x1x1x128 .f32) (harg11 : arg11.IsWhole)
  (arg12 : Memref sig .tc .vmem S128x2048 .fp8e4m3) (harg12 : arg12.IsWhole)
  (arg13 : Memref sig .tc .vmem S2x2048x256 .f32) (harg13 : arg13.IsWhole)
  (arg14 : Memref sig .tc .vmem S2x2048x256 .fp8e4m3) (harg14 : arg14.IsWhole)
  (v590 : FVec F S1x1 .f32) (v591 : FVec F S1x1 .f32)
  (X_arg6 : BufTy.Contents (Elt F) arg6.view.ty) (X_arg7 : BufTy.Contents (Elt F) arg7.view.ty)
  (X_arg8 : BufTy.Contents (Elt F) arg8.view.ty) (X_arg12 : BufTy.Contents (Elt F) arg12.view.ty)

/-- The pieces one trip writes into the output block: eight row blocks, with values that do not depend on what the trip
    found in the buffers it writes. -/
theorem trip_pieces (k : Fin k0_t1_loop.trips) : ∃ w : Fin 8 → (S1x256x128.Idx → Elt F .bf16), ∀ f g h,
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h = [⟨Rect.unit (s := S1x2048x1024) (k0_off17 k) S1x256x128.size (k0_off17_inb k), w 7⟩, ⟨Rect.unit (s := S1x2048x1024) (k0_off15 k) S1x256x128.size (k0_off15_inb k), w 6⟩, ⟨Rect.unit (s := S1x2048x1024) (k0_off13 k) S1x256x128.size (k0_off13_inb k), w 5⟩, ⟨Rect.unit (s := S1x2048x1024) (k0_off11 k) S1x256x128.size (k0_off11_inb k), w 4⟩, ⟨Rect.unit (s := S1x2048x1024) (k0_off9 k) S1x256x128.size (k0_off9_inb k), w 3⟩, ⟨Rect.unit (s := S1x2048x1024) (k0_off7 k) S1x256x128.size (k0_off7_inb k), w 2⟩, ⟨Rect.unit (s := S1x2048x1024) (k0_off5 k) S1x256x128.size (k0_off5_inb k), w 1⟩, ⟨Rect.unit (s := S1x2048x1024) (k0_off3 k) S1x256x128.size (k0_off3_inb k), w 0⟩] := by
  refine ⟨![?_, ?_, ?_, ?_, ?_, ?_, ?_, ?_], fun f g h => ?main⟩
  case main =>
    delta trip_k0_t1
    rfl

/-- An index of the output block in the column range of head `k` lies in one of trip `k`'s pieces. -/
theorem trip_cover (k : Fin k0_t1_loop.trips) (f g h) (y : S1x2048x1024.Idx) (h1 : 128 * k.val ≤ (y 2).val) (h2 : (y 2).val < 128 * k.val + 128) :
    ∃ p ∈ (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h, y ∈ p.1.set := by
  obtain ⟨w, hw⟩ := trip_pieces 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k
  rw [hw f g h]
  have y0 : (y 0).val < 1 := (y 0).isLt
  have y1 : (y 1).val < 2048 := (y 1).isLt
  have key : ∀ (r : ℕ) (off : Fin 3 → ℕ) (ho : off = ![0, r, 128 * k.val]) (inb), r ≤ (y 1).val → (y 1).val < r + 256 →
      y ∈ (Rect.unit (s := S1x2048x1024) off S1x256x128.size inb).set := by
    intro r off ho inb hr hr'
    subst ho
    rw [Rect.mem_set_unit]
    intro a
    fin_cases a
    · exact ⟨Nat.zero_le _, y0⟩
    · exact ⟨hr, hr'⟩
    · exact ⟨h1, h2⟩
  rcases (by omega : (y 1).val < 256 ∨ (256 ≤ (y 1).val ∧ (y 1).val < 512) ∨ (512 ≤ (y 1).val ∧ (y 1).val < 768)
      ∨ (768 ≤ (y 1).val ∧ (y 1).val < 1024) ∨ (1024 ≤ (y 1).val ∧ (y 1).val < 1280) ∨ (1280 ≤ (y 1).val ∧ (y 1).val < 1536)
      ∨ (1536 ≤ (y 1).val ∧ (y 1).val < 1792) ∨ (1792 ≤ (y 1).val)) with h | h | h | h | h | h | h | h
  · exact ⟨⟨Rect.unit (s := S1x2048x1024) (k0_off3 k) S1x256x128.size (k0_off3_inb k), w 0⟩,
      List.mem_of_getElem? (i := 7) rfl, key 0 _ (off3_eq k) (k0_off3_inb k) (by omega) (by omega)⟩
  · exact ⟨⟨Rect.unit (s := S1x2048x1024) (k0_off5 k) S1x256x128.size (k0_off5_inb k), w 1⟩,
      List.mem_of_getElem? (i := 6) rfl, key 256 _ (off5_eq k) (k0_off5_inb k) (by omega) (by omega)⟩
  · exact ⟨⟨Rect.unit (s := S1x2048x1024) (k0_off7 k) S1x256x128.size (k0_off7_inb k), w 2⟩,
      List.mem_of_getElem? (i := 5) rfl, key 512 _ (off7_eq k) (k0_off7_inb k) (by omega) (by omega)⟩
  · exact ⟨⟨Rect.unit (s := S1x2048x1024) (k0_off9 k) S1x256x128.size (k0_off9_inb k), w 3⟩,
      List.mem_of_getElem? (i := 4) rfl, key 768 _ (off9_eq k) (k0_off9_inb k) (by omega) (by omega)⟩
  · exact ⟨⟨Rect.unit (s := S1x2048x1024) (k0_off11 k) S1x256x128.size (k0_off11_inb k), w 4⟩,
      List.mem_of_getElem? (i := 3) rfl, key 1024 _ (off11_eq k) (k0_off11_inb k) (by omega) (by omega)⟩
  · exact ⟨⟨Rect.unit (s := S1x2048x1024) (k0_off13 k) S1x256x128.size (k0_off13_inb k), w 5⟩,
      List.mem_of_getElem? (i := 2) rfl, key 1280 _ (off13_eq k) (k0_off13_inb k) (by omega) (by omega)⟩
  · exact ⟨⟨Rect.unit (s := S1x2048x1024) (k0_off15 k) S1x256x128.size (k0_off15_inb k), w 6⟩,
      List.mem_of_getElem? (i := 1) rfl, key 1536 _ (off15_eq k) (k0_off15_inb k) (by omega) (by omega)⟩
  · exact ⟨⟨Rect.unit (s := S1x2048x1024) (k0_off17 k) S1x256x128.size (k0_off17_inb k), w 7⟩,
      List.mem_of_getElem? (i := 0) rfl, key 1792 _ (off17_eq k) (k0_off17_inb k) (by omega) (by omega)⟩

variable (G_arg5 : BufTy.Contents (Elt F) arg5.view.ty) (G_arg13 : BufTy.Contents (Elt F) arg13.view.ty)
  (G_arg14 : BufTy.Contents (Elt F) arg14.view.ty)

/-- What holds of every piece of every trip holds of every piece of the loop. -/
theorem loop_forall (P : View.Piece (Elt F) S1x2048x1024 .bf16 → Prop)
    (hP : ∀ k f g h, ∀ p ∈ (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h, P p) :
    ∀ n ≤ k0_t1_loop.trips, ∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1, P p
  | 0, _, p, hp => by rw [pb_k0_t1.eq_1] at hp; exact absurd hp List.not_mem_nil
  | n + 1, hn, p, hp => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    dsimp only at e
    rw [e] at hp
    rcases List.mem_append.mp hp with hp | hp
    · exact hP ⟨n, hn⟩ _ _ _ p hp
    · exact loop_forall P hP n (Nat.le_of_succ_le hn) p hp

/-- The trips before `n` cover the columns below `128 n`. -/
theorem loop_cover : ∀ n ≤ k0_t1_loop.trips, ∀ y : S1x2048x1024.Idx, (y 2).val < 128 * n →
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1, y ∈ p.1.set
  | 0, _, y, hy => absurd hy (by omega)
  | n + 1, hn, y, hy => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    dsimp only at e
    rw [e]
    by_cases h : (y 2).val < 128 * n
    · obtain ⟨p, hp, hy⟩ := loop_cover n (Nat.le_of_succ_le hn) y h
      exact ⟨p, List.mem_append_right _ hp, hy⟩
    · obtain ⟨p, hp, hy⟩ := trip_cover 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 ⟨n, hn⟩ _ _ _ y (by simp only; omega) (by simp only; omega)
      exact ⟨p, List.mem_append_left _ hp, hy⟩

/-- The output pieces of the loop do not depend on what the loop found in the buffers it writes. -/
theorem loop_const (G5 : BufTy.Contents (Elt F) arg5.view.ty) (G13 : BufTy.Contents (Elt F) arg13.view.ty)
    (G14 : BufTy.Contents (Elt F) arg14.view.ty) : ∀ n ≤ k0_t1_loop.trips,
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 n).1 = (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G5 G13 G14 n).1
  | 0, _ => by rw [pb_k0_t1.eq_1, pb_k0_t1.eq_1]
  | n + 1, hn => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G_arg5 G_arg13 G_arg14 ⟨n, hn⟩
    have e' := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 G5 G13 G14 ⟨n, hn⟩
    dsimp only at e e'
    rw [e, e']
    dsimp only
    obtain ⟨w, hw⟩ := trip_pieces 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 ⟨n, hn⟩
    rw [hw, hw, loop_const G5 G13 G14 n (Nat.le_of_succ_le hn)]

end Cert.Kernel.Gen

end
-- ==== Proof.FrameK.lean ====
module

public import proofs.«01_k».proof.Proof.RunK
public import proofs.«01_k».proof.Proof.LoopK
public import Idealize.ShloMosaic.Lib.Pipeline.FrameBody
public import Idealize.ShloMosaic.Lib.Pipeline.FrameSuffix
public import Idealize.ShloMosaic.Lib.Claim

/-!
The launch: what the body leaves in each output block at each grid point, the body obligation, and the run of the whole
program — the arguments unchanged, every semaphore back at zero, and each result array written with the blocks left by
the body.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch. -/
local notation "𝕄" => MT nD τ sig Unit (Elt F) ℕ (UR sig nD τ) ℕ

variable (m : (ℓ : Loc nD τ sig) → Buf (Elt F) ℓ) (ρ : Dev nD → PrngReg)

/-- The body's run at point `t`, on the staging buffers of that point holding the point's input blocks. -/
def runAt (c : Dev nD) (t : Fin cfg0.N) := bodyRun (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t))

/-- The output pieces that the body writes at point `t` cover the output block, whatever was there; -/
theorem out_cover (c : Dev nD) (t : Fin cfg0.N) (f g h) : ∀ y, ∃ p ∈ (runAt m c t).1 f g h, y ∈ p.1.set := by
  intro y
  have hy : (y 2).val < 128 * 8 := (y 2).isLt
  delta runAt bodyRun
  dsimp only
  exact loop_cover _ _ _ _ _ _ _ _ _ _ _ _ _ _ _ _ _ _ _ _ _ _ _ _ _ _ _ _ _ _ _ _ _ _ _ _ _ _ _ _ le_rfl y (by rw [trips_eq]; exact hy)

/-- and they are the same whatever was there. -/
theorem out_const (c : Dev nD) (t : Fin cfg0.N) (f g h f' g' h') : (runAt m c t).1 f g h = (runAt m c t).1 f' g' h' := by
  delta runAt bodyRun
  dsimp only
  exact loop_const _ _ _ _ _ _ _ _ _ _ _ _ _ _ _ _ _ _ _ _ _ _ _ _ _ _ _ _ _ _ _ _ _ _ _ _ _ _ _ _ _ _ _ le_rfl

/-- The attention block that the body leaves at point `t`. -/
def out0_3 (c : Dev nD) (t : Fin cfg0.N) := View.canon ((runAt m c t).1 (st0_3 t).view.junk (Memref.whole cc0_scratch1).view.junk (Memref.whole cc0_scratch2).view.junk)

/-- The query codes that the body leaves at point `t`. -/
def out0_4 (c : Dev nD) (t : Fin cfg0.N) := (st0_4 t).view.read (Elt F) (runAt m c t).2.1

/-- The query scales that the body leaves at point `t`. -/
def out0_5 (c : Dev nD) (t : Fin cfg0.N) := (st0_5 t).view.read (Elt F) (runAt m c t).2.2.1

/-- The key codes that the body leaves at point `t`. -/
def out0_6 (c : Dev nD) (t : Fin cfg0.N) := (st0_6 t).view.read (Elt F) (runAt m c t).2.2.2.1

/-- The key scale that the body leaves at point `t`. -/
def out0_7 (c : Dev nD) (t : Fin cfg0.N) := (st0_7 t).view.read (Elt F) (runAt m c t).2.2.2.2.1

/-- The value codes that the body leaves at point `t`. -/
def out0_8 (c : Dev nD) (t : Fin cfg0.N) := (st0_8 t).view.read (Elt F) (runAt m c t).2.2.2.2.2.1

/-- The value scale that the body leaves at point `t`. -/
def out0_9 (c : Dev nD) (t : Fin cfg0.N) := (st0_9 t).view.read (Elt F) (runAt m c t).2.2.2.2.2.2.1

attribute [irreducible] runAt

/-- The proof data of the one pipeline on core `c`: the arrays as launched; after the body each input's buffer at its block
    and each output's at what the body leaves; the three scratch buffers at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 m c t
    | ⟨4, _⟩ => out0_4 m c t
    | ⟨5, _⟩ => out0_5 m c t
    | ⟨6, _⟩ => out0_6 m c t
    | ⟨7, _⟩ => out0_7 m c t
    | ⟨8, _⟩ => out0_8 m c t
    | ⟨9, _⟩ => out0_9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 m c t := by dsimp only [dats]
theorem after0_4 (c : Dev nD) (t : Fin cfg0.N) : (dats m 0 c).after 4 t = out0_4 m c t := by dsimp only [dats]
theorem after0_5 (c : Dev nD) (t : Fin cfg0.N) : (dats m 0 c).after 5 t = out0_5 m c t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]
theorem after0_8 (c : Dev nD) (t : Fin cfg0.N) : (dats m 0 c).after 8 t = out0_8 m c t := by dsimp only [dats]
theorem after0_9 (c : Dev nD) (t : Fin cfg0.N) : (dats m 0 c).after 9 t = out0_9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A scratch buffer held whole is its whole memref held whole; -/
theorem to_whole (c : Dev nD) (b : Ref sig .tc) (f : Buf (Elt F) ((c : Thread nD τ).loc b)) :
    ((((c : Thread nD τ).loc b) ↦{fullShare} f) : sProp 𝕄) ⊢ ((Memref.whole b).view.loc (c : Thread nD τ) ↦[(Memref.whole b).view.set]{fullShare} f) := by
  rw [(Memref.isWhole_whole b).set_eq_univ]
/-- and back. -/
theorem of_whole (c : Dev nD) (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := by
  rw [(Memref.isWhole_whole b).set_eq_univ]

/-- Before the body at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
/-- After the body at point `t`. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

set_option maxHeartbeats 4000000 in
/-- The body runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, after0_0, after0_1, after0_2, after0_3, after0_4, after0_5, after0_6, after0_7, after0_8, after0_9]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq]
  unfold owns
  iintro ⟨⟨⟨⟨%f10, H10⟩, ⟨%f11, H11⟩, ⟨%f12, H12⟩⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  have run := (runAt m c t).2.2.2.2.2.2.2.2.2.2 Set.univ f3 f4 f5 f6 f7 f8 f9 f10 f11 f12
  iapply (wp_wand_r Idealize.ShloMosaic.frame (wpE (defs₀ (F := F)) Variants.none (c : Thread nD τ) none) Set.univ)
  isplitl [H0 H1 H2 H3 H4 H5 H6 H7 H8 H9 H10 H11 H12]
  · iapply run
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (to_whole c cc0_scratch0 f10) $$ H10
    isplitl [H11]; · iapply (to_whole c cc0_scratch1 f11) $$ H11
    iapply (to_whole c cc0_scratch2 f12) $$ H12
  iintro %_ ⟨H0, H1, H2, H3, H4, H5, H6, H7, H8, H9, H10, H11, H12⟩
  isplitl [Hr H10 H11 H12]
  · isplitl [H10 H11 H12]
    · isplitl [H10]; · iexists _; iapply (of_whole c cc0_scratch0 _) $$ H10
      isplitl [H11]; · iexists _; iapply (of_whole c cc0_scratch1 _) $$ H11
      iexists _; iapply (of_whole c cc0_scratch2 _) $$ H12
    · iexact Hr
  isplitl [Ho]; · iexact Ho
  isplitl [H0]
  · iexists _; isplitr
    swap; · iexact H0
    ipureintro; exact (hstage0_0 ((cfg0.slots t 0).cast nbuf0_0)).read_unread _
  isplitl [H1]
  · iexists _; isplitr
    swap; · iexact H1
    ipureintro; exact (hstage0_1 ((cfg0.slots t 1).cast nbuf0_1)).read_unread _
  isplitl [H2]
  · iexists _; isplitr
    swap; · iexact H2
    ipureintro; exact (hstage0_2 ((cfg0.slots t 2).cast nbuf0_2)).read_unread _
  isplitl [H3]
  · iexists _; isplitr
    swap; · iexact H3
    ipureintro
    exact (View.read_writes_eq_canon _ _ _ (out_cover m c t _ _ _)).trans (congrArg View.canon (out_const m c t _ _ _ _ _ _))
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  iexists _; isplitr
  swap; · iexact H9
  ipureintro; rfl

theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to the frame's post, every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun _ => Dat.share_full _ (fun _ => rfl)) (howed := fun _ _ => rfl) (V₀ := V0 m) (opss := [hostOps1]) (hsub := sfx_sub) (hfresh := sfx_fresh) (hkeep := sfx_keeps) (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every semaphore is back at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Idealize.ShloMosaic.θ_run_and (frame_of m ρ (dats m) (A_eq m) (run_main m ρ)) ((θ_run defs _ _).mono (fun _ h => h.2) (run_main_quiescent m ρ))

end Cert.Kernel.Gen

end
-- ==== Proof.Frames.lean ====
module

public import proofs.«01_k».proof.Defs
public import proofs.«01_k».proof.Proof.FrameI
public import proofs.«01_k».proof.Proof.FrameK
public import proofs.«01_k».proof.Proof.Gen.ReferenceIdeal.Run
public import proofs.«01_k».proof.Proof.Gen.Pre_in_range

/-!
The frame claims of the three programs, and the claim that the kernel's constant is the irrational number it stands for.
-/

@[expose] public section

noncomputable section

namespace Cert.Proof

open Idealize.ShloMosaic Idealize.SL.Sem

/-- The kernel on words: arguments unchanged, every semaphore back at zero. -/
theorem frame_kernel : quiescent_Kernel (hKernel := Cert.Kernel.Gen.facts) := fun m g _ =>
  Cert.Kernel.Gen.frame_quiescent m g

/-- The kernel on extended reals likewise. -/
theorem frame_kernelIdeal : quiescent_KernelIdeal (hKernelIdeal := Cert.KernelIdeal.Gen.facts) := fun m g _ =>
  Cert.KernelIdeal.Gen.frame_quiescent m g

/-- And under the precondition. -/
theorem frame_kernelIdeal_pre : quiescent_KernelIdeal_pre_in_range (hKernelIdeal := Cert.KernelIdeal.Gen.facts)
    (hPre_in_range := Cert.Pre_in_range.Gen.facts) := fun m g _ =>
  Cert.KernelIdeal.Gen.frame_quiescent m g

/-- The reference likewise. -/
theorem frame_referenceIdeal : quiescent_ReferenceIdeal (hReferenceIdeal := Cert.ReferenceIdeal.Gen.facts) := fun m g _ =>
  (Idealize.ShloMosaic.θ_run _ _ _).mono (fun r h => ⟨fun c => (h c).2.2.2.2.2.2.2, Idealize.ShloMosaic.sem_eq_zero_of_no_sems (by decide) r.2⟩) (Cert.ReferenceIdeal.Value.run m g)

theorem frame_referenceIdeal_pre : quiescent_ReferenceIdeal_pre_in_range (hReferenceIdeal := Cert.ReferenceIdeal.Gen.facts)
    (hPre_in_range := Cert.Pre_in_range.Gen.facts) := fun m g _ =>
  (Idealize.ShloMosaic.θ_run _ _ _).mono (fun r h => ⟨fun c => (h c).2.2.2.2.2.2.2, Idealize.ShloMosaic.sem_eq_zero_of_no_sems (by decide) r.2⟩) (Cert.ReferenceIdeal.Value.run m g)

/-- The kernel's constant `1.44269502` is named `1 / ln 2`. -/
theorem preserves_log2e : preserves_Kernel_KernelIdeal :=
  IdealRules.named_const.statement Cert.KernelIdeal.κ "log2_e" .f32 0x3FB8AA3B#32 (((Real.log 2)⁻¹ : ℝ) : EReal) rfl

end Cert.Proof

end
-- ==== Proof.Scale.lean ====
module

public import Idealize.ShloMosaic.Lib.Pointwise

/-!
# The power-of-two scale of one head

The kernel reads the exponent field of the 448th part of a head's largest magnitude with eight comparisons, and writes
the scale and its inverse as bit patterns. The reference takes the floor of a logarithm and exponentiates. Both are the
same power of two when the largest magnitude is zero or at least `2 ^ (-117)` and at most the greatest bf16.
-/

@[expose] public section

noncomputable section

namespace Cert.Attn

open Idealize.ShloMosaic

/-- The value of the f32 pattern whose exponent field is `n` and whose other bits are zero. -/
def thr (n : ℕ) : EReal := Ideal.ofBits .f32 (BitVec.ofNat 32 n <<< 23)

/-- One comparison of the exponent search: keep `n`, or add the bit `b`. -/
def step (x : EReal) (n b : BitVec 32) : BitVec 32 :=
  if x < Ideal.ofBits .f32 ((n + b) <<< (23#32).toNat) then n else n + b

/-- The exponent search: eight comparisons from the top bit down. -/
def field (x : EReal) : BitVec 32 :=
  step x (step x (step x (step x (step x (step x (step x (step x 0#32 128#32) 64#32) 32#32) 16#32) 8#32) 4#32) 2#32) 1#32

/-- The field, with the zero head sent to the field of the scale one. -/
def biased (x : EReal) : BitVec 32 := if field x = 0#32 then 126#32 else field x

/-- The kernel's scale of a head whose largest magnitude is `a`. -/
def kscale (a : EReal) : EReal :=
  Ideal.ofBits .f32 ((biased (a * Ideal.ofBits .f32 991054117#32) + 1#32) <<< (23#32).toNat)

/-- The kernel's inverse scale. -/
def kinv (a : EReal) : EReal :=
  Ideal.ofBits .f32 ((253#32 - biased (a * Ideal.ofBits .f32 991054117#32)) <<< (23#32).toNat)

/-- A pattern with a clear sign, a clear significand and exponent field `n`. -/
theorem ieee_pow (w : BitVec 32) (n : ℕ) (h1 : 1 ≤ n) (h2 : n ≤ 254) (k1 : (BitVec.extractLsb' 31 1 w == 1#1) = false)
    (k2 : (BitVec.extractLsb' 23 8 w).toNat = n) (k3 : (BitVec.extractLsb' 0 23 w).toNat = 0) :
    Ideal.ofBits .f32 w = (((2 : ℝ) ^ ((n : ℤ) - 127) : ℝ) : EReal) := by
  show Ideal.ieee 8 23 w = _
  unfold Ideal.ieee
  simp only [Nat.reduceAdd, k1, k2, k3]
  rw [if_neg (by omega), if_neg (by omega)]
  refine congrArg Real.toEReal ?_
  simp only [Bool.false_eq_true, if_false, one_mul, add_zero]
  rw [show ((2 ^ 23 : ℕ) : ℝ) = (2 : ℝ) ^ (23 : ℤ) by norm_num, ← zpow_add₀ (by norm_num)]
  congr 1
  push_cast
  ring

theorem thr_eq (n : ℕ) (h1 : 1 ≤ n) (h2 : n ≤ 254) : thr n = (((2 : ℝ) ^ ((n : ℤ) - 127) : ℝ) : EReal) := by
  have key : ∀ n : Fin 255, (BitVec.extractLsb' 31 1 (BitVec.ofNat 32 n.val <<< 23) == 1#1) = false
      ∧ (BitVec.extractLsb' 23 8 (BitVec.ofNat 32 n.val <<< 23)).toNat = n.val
      ∧ (BitVec.extractLsb' 0 23 (BitVec.ofNat 32 n.val <<< 23)).toNat = 0 := by decide +kernel
  obtain ⟨k1, k2, k3⟩ := key ⟨n, by omega⟩
  simp only at k1 k2 k3
  exact ieee_pow _ n h1 h2 k1 k2 k3

theorem thr_zero : thr 0 = 0 := by simp [thr, Ideal.ofBits, Ideal.ieee]

theorem thr_255 : thr 255 = ⊤ := by simp [thr, Ideal.ofBits, Ideal.ieee]

/-- What the search knows: `n` is a candidate field, the true field is below `n + w`. -/
def Inv (x : EReal) (n w : ℕ) : Prop := n + w ≤ 256 ∧ thr n ≤ x ∧ (n + w = 256 ∨ x < thr (n + w))

theorem step_inv {x : EReal} {n b : ℕ} {v : BitVec 32} (hv : v = BitVec.ofNat 32 n) (h : Inv x n (2 * b)) :
    ∃ n', step x v (BitVec.ofNat 32 b) = BitVec.ofNat 32 n' ∧ Inv x n' b := by
  subst hv
  obtain ⟨h1, h2, h3⟩ := h
  have e : step x (BitVec.ofNat 32 n) (BitVec.ofNat 32 b)
      = if x < thr (n + b) then BitVec.ofNat 32 n else BitVec.ofNat 32 (n + b) := by
    unfold step thr
    rw [← BitVec.ofNat_add]
    rfl
  rw [e]
  split
  · exact ⟨n, rfl, by omega, h2, Or.inr ‹_›⟩
  · refine ⟨n + b, rfl, by omega, not_lt.mp ‹_›, ?_⟩
    rcases h3 with h3 | h3
    · left; omega
    · right; rwa [show n + b + b = n + 2 * b by ring]

theorem field_inv {x : EReal} (h : 0 ≤ x) : ∃ n, field x = BitVec.ofNat 32 n ∧ Inv x n 1 := by
  have i0 : Inv x 0 (2 * 128) := ⟨by norm_num, by rwa [thr_zero], Or.inl rfl⟩
  obtain ⟨_, e1, i1⟩ := step_inv (v := 0#32) rfl i0
  obtain ⟨_, e2, i2⟩ := step_inv (b := 64) e1 i1
  obtain ⟨_, e3, i3⟩ := step_inv (b := 32) e2 i2
  obtain ⟨_, e4, i4⟩ := step_inv (b := 16) e3 i3
  obtain ⟨_, e5, i5⟩ := step_inv (b := 8) e4 i4
  obtain ⟨_, e6, i6⟩ := step_inv (b := 4) e5 i5
  obtain ⟨_, e7, i7⟩ := step_inv (b := 2) e6 i6
  obtain ⟨n, e8, i8⟩ := step_inv (b := 1) e7 i7
  exact ⟨n, e8, i8⟩

theorem thr_mono_lt {m n : ℕ} (hm : 1 ≤ m) (hn : n ≤ 254) (hn1 : 1 ≤ n) (hm2 : m ≤ 254) :
    thr m ≤ thr n ↔ m ≤ n := by
  rw [thr_eq m hm hm2, thr_eq n hn1 hn, EReal.coe_le_coe_iff, zpow_le_zpow_iff_right₀ (by norm_num)]
  omega

/-- The field of a positive real between `2 ^ (-126)` and `2 ^ 125`. -/
theorem field_real {x : ℝ} (h1 : (2 : ℝ) ^ (-126 : ℤ) ≤ x) (h2 : x < (2 : ℝ) ^ (125 : ℤ)) :
    ∃ b : ℕ, 1 ≤ b ∧ b ≤ 251 ∧ field x = BitVec.ofNat 32 b
      ∧ (2 : ℝ) ^ ((b : ℤ) - 127) ≤ x ∧ x < (2 : ℝ) ^ ((b : ℤ) - 126) := by
  have hx : (0 : ℝ) ≤ x := le_trans (by positivity) h1
  obtain ⟨n, e, i1, i2, i3⟩ := field_inv (x := (x : EReal)) (by exact_mod_cast hx)
  have t1 : thr 1 ≤ x := by rw [thr_eq 1 (by norm_num) (by norm_num)]; exact_mod_cast h1
  have t2 : (x : EReal) < thr 252 := by
    rw [thr_eq 252 (by norm_num) (by norm_num)]
    exact EReal.coe_lt_coe_iff.mpr (by norm_num; norm_num at h2; exact h2)
  have hn2 : n ≤ 251 := by
    by_contra hc
    have hlt := lt_of_le_of_lt i2 t2
    by_cases h255 : n = 255
    · rw [h255, thr_255] at hlt; exact absurd hlt (not_lt.mpr le_top)
    · exact absurd ((thr_mono_lt (m := 252) (n := n) (by norm_num) (by omega) (by omega) (by norm_num)).mpr (by omega))
        (not_le.mpr hlt)
  have i3' : (x : EReal) < thr (n + 1) := by
    rcases i3 with h | h
    · omega
    · exact h
  have hn1 : 1 ≤ n := by
    by_contra hc
    have : n = 0 := by omega
    subst this
    exact absurd t1 (not_le.mpr i3')
  refine ⟨n, hn1, hn2, e, ?_, ?_⟩
  · rw [thr_eq n hn1 (by omega)] at i2; exact_mod_cast i2
  · rw [thr_eq (n + 1) (by omega) (by omega)] at i3'
    have := EReal.coe_lt_coe_iff.mp i3'
    rwa [show ((n + 1 : ℕ) : ℤ) - 127 = (n : ℤ) - 126 by push_cast; ring] at this

theorem field_zero : field 0 = 0#32 := by
  obtain ⟨n, e, i1, i2, i3⟩ := field_inv (x := 0) le_rfl
  have : n = 0 := by
    by_contra hc
    by_cases h255 : n = 255
    · rw [h255, thr_255] at i2; simp at i2
    · rw [thr_eq n (by omega) (by omega)] at i2
      have : (0 : ℝ) < (2 : ℝ) ^ ((n : ℤ) - 127) := by positivity
      exact absurd (EReal.coe_le_coe_iff.mp (by exact_mod_cast i2 : (((2 : ℝ) ^ ((n : ℤ) - 127) : ℝ) : EReal) ≤ (0 : ℝ)))
        (not_le.mpr this)
  rw [e, this]

/-- The reference's exponent of a head whose largest magnitude is `a`. -/
def rexp (a : EReal) : EReal :=
  if a = 0 then 0
  else Ideal.liftRound Int.floor (Ideal.div (Ideal.log (a * Ideal.ofBits .f32 991054117#32))
    (Ideal.log (Ideal.ofBits .f32 0x40000000#32))) + 1

/-- The reference's scale. -/
def rscale (a : EReal) : EReal := Ideal.exp (rexp a * Ideal.log (Ideal.ofBits .f32 0x40000000#32))

/-- The reference's inverse scale. -/
def rinv (a : EReal) : EReal := Ideal.exp (-(rexp a) * Ideal.log (Ideal.ofBits .f32 0x40000000#32))

theorem two_val : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [two_val, Ideal.log_coe, if_neg (by norm_num)]

/-- The float the programs write for 1/448. -/
def c448 : ℝ := 9586981 * (2 : ℝ) ^ (-32 : ℤ)

theorem c448_val : Ideal.ofBits .f32 991054117#32 = ((c448 : ℝ) : EReal) := by
  simp [Ideal.ofBits, Ideal.ieee, -EReal.coe_mul, c448]

/-- What the precondition says of a head's largest magnitude. -/
def Ok (a : EReal) : Prop :=
  a = 0 ∨ (Ideal.ofBits .f32 0x05000000#32 ≤ a ∧ a ≤ Ideal.ofBits .f32 0x7F7F0000#32)

theorem exp_int (e : ℤ) : Ideal.exp ((e : ℝ) * (Real.log 2 : ℝ) : ℝ) = (((2 : ℝ) ^ e : ℝ) : EReal) := by
  rw [Ideal.exp_coe, mul_comm, ← Real.rpow_def_of_pos (by norm_num), Real.rpow_intCast]

/-- Scale and inverse scale are one power of two and its inverse, in both programs. -/
theorem scale_eq {a : EReal} (h : Ok a) : ∃ e : ℤ, kscale a = (((2 : ℝ) ^ e : ℝ) : EReal)
    ∧ rscale a = (((2 : ℝ) ^ e : ℝ) : EReal) ∧ kinv a = (((2 : ℝ) ^ (-e) : ℝ) : EReal)
    ∧ rinv a = (((2 : ℝ) ^ (-e) : ℝ) : EReal) := by
  rcases h with rfl | ⟨h1, h2⟩
  · refine ⟨0, ?_, ?_, ?_, ?_⟩
    · have := thr_eq 127 (by norm_num) (by norm_num)
      unfold thr at this
      simp only [kscale, zero_mul, biased, field_zero, if_true]
      refine Eq.trans ?_ (this.trans ?_)
      · rfl
      · norm_num
    · simpa [rscale, rexp, log_two] using exp_int 0
    · have := thr_eq 127 (by norm_num) (by norm_num)
      unfold thr at this
      simp only [kinv, zero_mul, biased, field_zero, if_true]
      refine Eq.trans ?_ (this.trans ?_)
      · rfl
      · norm_num
    · simpa [rinv, rexp, log_two] using exp_int 0
  · have v1 : Ideal.ofBits .f32 0x05000000#32 = (((2 : ℝ) ^ (-117 : ℤ) : ℝ) : EReal) := by
      simp [Ideal.ofBits, Ideal.ieee, -EReal.coe_mul]; norm_num
    have v2 : Ideal.ofBits .f32 0x7F7F0000#32 ≤ (((2 : ℝ) ^ (128 : ℤ) : ℝ) : EReal) := by
      have e : Ideal.ofBits .f32 0x7F7F0000#32 = ((338953138925153547590470800371487866880 : ℝ) : EReal) := by
        simp [Ideal.ofBits, Ideal.ieee, -EReal.coe_mul]; norm_num
      rw [e]
      exact EReal.coe_le_coe_iff.mpr (by norm_num)
    rw [v1] at h1
    have h2 := h2.trans v2
    induction a using EReal.rec with
    | bot => simp at h1
    | top => exact absurd h2 (not_le.mpr (EReal.coe_lt_top _))
    | coe a =>
      have h1 := EReal.coe_le_coe_iff.mp h1
      have h2 := EReal.coe_le_coe_iff.mp h2
      have ha : 0 < a := lt_of_lt_of_le (by positivity) h1
      have hx1 : (2 : ℝ) ^ (-126 : ℤ) ≤ a * c448 := by
        calc (2 : ℝ) ^ (-126 : ℤ) ≤ (2 : ℝ) ^ (-117 : ℤ) * c448 := by unfold c448; norm_num
          _ ≤ a * c448 := mul_le_mul_of_nonneg_right h1 (by unfold c448; positivity)
      have hx2 : a * c448 < (2 : ℝ) ^ (125 : ℤ) := by
        calc a * c448 ≤ (2 : ℝ) ^ (128 : ℤ) * c448 := mul_le_mul_of_nonneg_right h2 (by unfold c448; positivity)
          _ < (2 : ℝ) ^ (125 : ℤ) := by unfold c448; norm_num
      obtain ⟨b, hb1, hb2, hf, hl, hu⟩ := field_real hx1 hx2
      have hxp : 0 < a * c448 := lt_of_lt_of_le (by positivity) hx1
      have hl2 : 0 < Real.log 2 := Real.log_pos (by norm_num)
      have hfl : ⌊Real.log (a * c448) * (Real.log 2)⁻¹⌋ = (b : ℤ) - 127 := by
        rw [Int.floor_eq_iff]
        have e1 := Real.log_le_log (by positivity) hl
        have e2 := Real.log_lt_log hxp hu
        rw [Real.log_zpow] at e1 e2
        constructor
        · rw [← div_eq_mul_inv, le_div_iff₀ hl2]; exact e1
        · rw [← div_eq_mul_inv, div_lt_iff₀ hl2]
          refine e2.trans_eq ?_
          push_cast; ring
      have he : rexp a = (((((b : ℤ) - 126 : ℤ) : ℝ)) : EReal) := by
        unfold rexp
        rw [if_neg (by exact_mod_cast ha.ne'), c448_val, log_two, ← EReal.coe_mul, Ideal.log_coe,
          if_neg (not_le.mpr hxp)]
        unfold Ideal.div
        rw [if_neg (by exact_mod_cast hl2.ne'), ← EReal.coe_inv, ← EReal.coe_mul]
        rw [show Ideal.liftRound Int.floor ((Real.log (a * c448) * (Real.log 2)⁻¹ : ℝ) : EReal)
          = ((⌊Real.log (a * c448) * (Real.log 2)⁻¹⌋ : ℝ) : EReal) from rfl, hfl]
        rw [← EReal.coe_one, ← EReal.coe_add]
        congr 1
        push_cast; ring
      have hbi : biased ((a : EReal) * Ideal.ofBits .f32 991054117#32) = BitVec.ofNat 32 b := by
        rw [c448_val, ← EReal.coe_mul]
        unfold biased
        rw [hf, if_neg]
        intro hc
        have := congrArg BitVec.toNat hc
        simp at this
        omega
      refine ⟨(b : ℤ) - 126, ?_, ?_, ?_, ?_⟩
      · unfold kscale
        rw [hbi]
        refine Eq.trans ?_ ((thr_eq (b + 1) (by omega) (by omega)).trans ?_)
        · unfold thr; rw [← BitVec.ofNat_add]; rfl
        · congr 2; push_cast; ring
      · unfold rscale
        rw [he, log_two, ← EReal.coe_mul, exp_int]
      · unfold kinv
        rw [hbi]
        refine Eq.trans ?_ ((thr_eq (253 - b) (by omega) (by omega)).trans ?_)
        · unfold thr
          have : BitVec.ofNat 32 (253 - b) = 253#32 - BitVec.ofNat 32 b := by
            apply BitVec.eq_of_toNat_eq
            simp only [BitVec.toNat_ofNat, BitVec.toNat_sub]
            omega
          rw [this]; rfl
        · congr 2; push_cast [Nat.cast_sub (show b ≤ 253 by omega)]; ring
      · unfold rinv
        rw [he, log_two, ← EReal.coe_neg, ← EReal.coe_mul, ← exp_int]
        congr 2; push_cast; ring

end Cert.Attn
-- ==== Proof.Amax.lean ====
module

public import proofs.«01_k».proof.Proof.RunI
public import proofs.«01_k».proof.Proof.Scale
public import Idealize.ShloMosaic.Lib.WholeRead

/-!
# The largest magnitude of each head, as the kernel takes it

Eight row chunks are folded to sixteen rows each, the chunks joined, the sixteen rows folded, and the lanes last. Whatever
the order, the result is the least upper bound of the magnitudes of the head's entries.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-- The least upper bound of the magnitudes of a head's entries. -/
def headMax (f : Fin 2048 → Fin 128 → EReal) : EReal :=
  (Finset.univ : Finset (Fin 2048 × Fin 128)).sup fun p => max (f p.1 p.2) (-(f p.1 p.2))

theorem headMax_le {f : Fin 2048 → Fin 128 → EReal} {u : EReal} :
    headMax f ≤ u ↔ ∀ s d, max (f s d) (-(f s d)) ≤ u := by
  unfold headMax
  simp only [Finset.sup_le_iff, Finset.mem_univ, true_implies, Prod.forall]

/-- One chunk of 256 rows folded to sixteen. -/
def chunkMax (Y : FVec Ideal S256x128 .bf16) : FVec Ideal S16x128 .bf16 :=
  multiReduction .maximumf [0] S16x128 (shapeCast S16x16x128 (absf Y) (by decide)) 65408#16 (by decide) (by decide) (by rfl)

/-- The maximum of a column over the rows of eight chunks. -/
def rowMax (Y : Fin 8 → FVec Ideal S256x128 .bf16) : FVec Ideal S1x128 .f32 :=
  shapeCast S1x128 (multiReduction .maximumf [0] S128 (extf .f32 (maximumf (maximumf (maximumf (maximumf (maximumf
    (maximumf (maximumf (chunkMax (Y 0)) (chunkMax (Y 1))) (chunkMax (Y 2))) (chunkMax (Y 3))) (chunkMax (Y 4)))
    (chunkMax (Y 5))) (chunkMax (Y 6))) (chunkMax (Y 7))) (by decide)) 4286578688#32 (by decide) (by decide) (by rfl)) (by decide)

theorem bot_bf16 : Ideal.ofBits .bf16 65408#16 = ⊥ := by simp [Ideal.ofBits, Ideal.ieee]
theorem bot_f32 : Ideal.ofBits .f32 4286578688#32 = ⊥ := by simp [Ideal.ofBits, Ideal.ieee]

theorem fold_max_le {ι : Type*} (s : Finset ι) (f : ι → EReal) (u : EReal) :
    s.fold max ⊥ f ≤ u ↔ ∀ i ∈ s, f i ≤ u := by
  rw [Finset.fold_max_le]
  exact ⟨fun h => h.2, fun h => ⟨bot_le, h⟩⟩

theorem red3_le (V : FVec Ideal S16x16x128 .bf16) (h : S16x16x128.Reduces [0] S16x128) (hφ : FKind.Formats .bf16)
    (hacc : (65408#16 : BitVec 16) = FKind.maximumf.neutral .bf16 hφ) (r : Fin 16) (d : Fin 128) (u : EReal) :
    multiReduction .maximumf [0] S16x128 V 65408#16 h hφ hacc (ix2 r d) ≤ u ↔ ∀ t : Fin 16, V (ix3 t r d) ≤ u := by
  rw [Ideal.multiReduction_maximumf_single, Ideal.ofBits_def, bot_bf16, fold_max_le]
  have e : ∀ t : Fin 16, h.lift (ix2 r d) t = ix3 t r d := fun t => by
    funext a; apply Fin.ext; fin_cases a <;> rfl
  exact ⟨fun h' t => by rw [← e t]; exact h' t (Finset.mem_univ _),
    fun h' t _ => by rw [Function.comp_apply]; exact (congrArg (· ≤ u) (congrArg V (e t))).mpr (h' t)⟩

theorem red2_le (V : FVec Ideal S16x128 .f32) (h : S16x128.Reduces [0] S128) (hφ : FKind.Formats .f32)
    (hacc : (4286578688#32 : BitVec 32) = FKind.maximumf.neutral .f32 hφ) (d : Fin 128) (u : EReal) :
    multiReduction .maximumf [0] S128 V 4286578688#32 h hφ hacc (ix1 d) ≤ u ↔ ∀ r : Fin 16, V (ix2 r d) ≤ u := by
  rw [Ideal.multiReduction_maximumf_single, Ideal.ofBits_def, bot_f32, fold_max_le]
  have e : ∀ r : Fin 16, h.lift (ix1 d) r = ix2 r d := fun t => by
    funext a; apply Fin.ext; fin_cases a <;> rfl
  exact ⟨fun h' t => by rw [← e t]; exact h' t (Finset.mem_univ _),
    fun h' t _ => by rw [Function.comp_apply]; exact (congrArg (· ≤ u) (congrArg V (e t))).mpr (h' t)⟩

theorem redLane_le (V : FVec Ideal S16x128 .f32) (h : S16x128.Reduces [1] S16) (hφ : FKind.Formats .f32)
    (hacc : (4286578688#32 : BitVec 32) = FKind.maximumf.neutral .f32 hφ) (r : Fin 16) (u : EReal) :
    multiReduction .maximumf [1] S16 V 4286578688#32 h hφ hacc (ix1 r) ≤ u ↔ ∀ d : Fin 128, V (ix2 r d) ≤ u := by
  rw [Ideal.multiReduction_maximumf_single, Ideal.ofBits_def, bot_f32, fold_max_le]
  have e : ∀ d : Fin 128, h.lift (ix1 r) d = ix2 r d := fun t => by
    funext a; apply Fin.ext; fin_cases a <;> rfl
  exact ⟨fun h' t => by rw [← e t]; exact h' t (Finset.mem_univ _),
    fun h' t _ => by rw [Function.comp_apply]; exact (congrArg (· ≤ u) (congrArg V (e t))).mpr (h' t)⟩

theorem cast3_apply (W : FVec Ideal S256x128 .bf16) (h : S256x128.ShapeCasts S16x16x128) (t r : Fin 16) (d : Fin 128) :
    shapeCast S16x16x128 W h (ix3 t r d) = W (ix2 (⟨16 * t.val + r.val, by omega⟩ : Fin 256) d) := by
  pointwise
  congr 2
  apply Fin.ext
  simp
  try omega

theorem chunkMax_le (Y : FVec Ideal S256x128 .bf16) (r : Fin 16) (d : Fin 128) (u : EReal) :
    chunkMax Y (ix2 r d) ≤ u ↔ ∀ t : Fin 16,
      max (Y (ix2 (⟨16 * t.val + r.val, by omega⟩ : Fin 256) d)) (-(Y (ix2 (⟨16 * t.val + r.val, by omega⟩ : Fin 256) d))) ≤ u := by
  unfold chunkMax
  rw [red3_le]
  refine forall_congr' fun t => ?_
  rw [cast3_apply]
  rfl

theorem rowMax_le (Y : Fin 8 → FVec Ideal S256x128 .bf16) (d : Fin 128) (u : EReal) :
    rowMax Y (ix2 0 d) ≤ u ↔ ∀ (i : Fin 8) (r : Fin 256), max (Y i (ix2 r d)) (-(Y i (ix2 r d))) ≤ u := by
  have e0 : rowMax Y (ix2 0 d) ≤ u ↔ ∀ (r : Fin 16) (i : Fin 8), chunkMax (Y i) (ix2 r d) ≤ u := by
    unfold rowMax
    rw [show ∀ (W : FVec Ideal S128 .f32) h, shapeCast S1x128 W h (ix2 0 d) = W (ix1 d) from fun W h => by pointwise]
    rw [red2_le]
    refine forall_congr' fun r => ?_
    rw [Fin.forall_fin_succ]
    show max (max (max (max (max (max (max _ _) _) _) _) _) _) _ ≤ u ↔ _
    simp only [max_le_iff, Fin.forall_fin_succ, IsEmpty.forall_iff, and_true, and_assoc]
    rfl
  rw [e0]
  simp only [chunkMax_le]
  constructor
  · intro h i r
    have := h ⟨r.val % 16, by omega⟩ i ⟨r.val / 16, by omega⟩
    have hr : (⟨16 * (r.val / 16) + r.val % 16, by omega⟩ : Fin 256) = r := Fin.ext (by simp; omega)
    simp only [hr] at this
    exact this
  · intro h r i t
    exact h i _

theorem colMax_le (Y : Fin 8 → FVec Ideal S256x128 .bf16) (f : Fin 2048 → EReal) (d : Fin 128)
    (hY : ∀ (i : Fin 8) (r : Fin 256), Y i (ix2 r d) = f ⟨256 * i.val + r.val, by omega⟩) (u : EReal) :
    rowMax Y (ix2 0 d) ≤ u ↔ ∀ s, max (f s) (-(f s)) ≤ u := by
  rw [rowMax_le]
  constructor
  · intro h s
    have := h ⟨s.val / 256, by omega⟩ ⟨s.val % 256, by omega⟩
    rw [hY] at this
    have hs : (⟨256 * (s.val / 256) + s.val % 256, by omega⟩ : Fin 2048) = s := Fin.ext (by simp; omega)
    simp only [hs] at this
    exact this
  · intro h i r
    rw [hY]
    exact h _

/-- Eight chunks of 256 rows of the 128 columns from `c` of a whole block. -/
def chunks {N : Nat} (arg : Memref sig .tc .vmem ⟨3, ![1, 2048, N]⟩ .bf16) (c : Nat) (hc : c + 128 ≤ N)
    (X : BufTy.Contents (Elt Ideal) arg.view.ty) (i : Fin 8) : FVec Ideal S256x128 .bf16 :=
  shapeCast S256x128 (View.readAt (Elt Ideal) arg.view (Rect.unit (s := ⟨3, ![1, 2048, N]⟩) ![0, 256 * i.val, c] S1x256x128.size (by
    intro a
    have hi := i.isLt
    fin_cases a
    · show 0 + 1 ≤ 1; omega
    · show 256 * i.val + 256 ≤ 2048; omega
    · show c + 128 ≤ N; omega)).toLoadRect X) (show S1x256x128.ShapeCasts S256x128 by decide)

/-- A read of a rectangle of a whole block, cast to a matrix. -/
theorem read3_apply {N : Nat} {arg : Memref sig .tc .vmem ⟨3, ![1, 2048, N]⟩ .bf16} (harg : arg.IsWhole)
    (B : (⟨3, ![1, 2048, N]⟩ : Shape).Idx → EReal) (r0 c0 : Nat) (inb) (h : S1x256x128.ShapeCasts S256x128)
    (r : Fin 256) (d : Fin 128) (hr : r0 + 256 ≤ 2048) (hc : c0 + 128 ≤ N) :
    shapeCast S256x128 (View.readAt (Elt Ideal) arg.view (Rect.unit (s := ⟨3, ![1, 2048, N]⟩) ![0, r0, c0] S1x256x128.size inb).toLoadRect
        (harg.unread (Val := Elt Ideal) B)) h (ix2 r d)
      = B (ix3 0 (⟨r0 + r.val, by omega⟩ : Fin 2048) (⟨c0 + d.val, by omega⟩ : Fin N)) := by
  rw [show ∀ (W : S1x256x128.Idx → EReal), shapeCast S256x128 W h (ix2 r d) = W (ix3 0 r d) from fun W => by pointwise]
  refine (harg.readAt_unread (Val := Elt Ideal) B _ _).trans (congrArg B ?_)
  funext a
  apply Fin.ext
  fin_cases a
  · rfl
  · show r0 + 1 * r.val = r0 + r.val; omega
  · show c0 + 1 * d.val = c0 + d.val; omega

theorem chunks_apply {N : Nat} {arg : Memref sig .tc .vmem ⟨3, ![1, 2048, N]⟩ .bf16} (harg : arg.IsWhole)
    (B : (⟨3, ![1, 2048, N]⟩ : Shape).Idx → EReal) (c : Nat) (hc : c + 128 ≤ N) (i : Fin 8) (r : Fin 256) (d : Fin 128) :
    chunks arg c hc (harg.unread (Val := Elt Ideal) B) i (ix2 r d)
      = B (ix3 0 (⟨256 * i.val + r.val, by omega⟩ : Fin 2048) (⟨c + d.val, by omega⟩ : Fin N)) :=
  read3_apply harg B _ _ _ _ r d (by omega) hc

/-- One step of the exponent search on vectors. -/
theorem step_apply (x : FVec Ideal S16x1 .f32) (n b w : IVec S16x1 32) (i : S16x1.Idx) (hw : w i = 23#32) :
    select (cmpf .olt x (bitcastToFloat .f32 (shli (addi n b) w))) n (addi n b) i = step (x i) (n i) (b i) := by
  show Scalar.select (Ideal.cmp .olt (x i) (Ideal.ofBits .f32 (IntOp.shli .vector (n i + b i) (w i)))) (n i) (n i + b i) = _
  rw [hw]
  show (if BitVec.ofBool (decide (x i < _)) = 1 then _ else _) = _
  unfold step
  by_cases h : x i < Ideal.ofBits .f32 ((n i + b i) <<< (23#32).toNat)
  · rw [if_pos h]
    refine if_pos ?_
    rw [show IntOp.shli .vector (n i + b i) (23#32) = (n i + b i) <<< (23#32).toNat from rfl, decide_eq_true h]; rfl
  · rw [if_neg h]
    refine if_neg ?_
    rw [show IntOp.shli .vector (n i + b i) (23#32) = (n i + b i) <<< (23#32).toNat from rfl, decide_eq_false h]; decide

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)
  (X2 : BufTy.Contents (Elt Ideal) arg2.view.ty) (X3 : BufTy.Contents (Elt Ideal) arg3.view.ty)
  (X4 : BufTy.Contents (Elt Ideal) arg4.view.ty)

/-- The column maxima of head row `g` of the stacked maxima. -/
theorem v500_q (g : Fin 8) (d : Fin 128) :
    bodyRun.sl.v500 (F := Ideal) arg2 arg3 arg4 X2 X3 X4 (ix2 (⟨g.val, by omega⟩ : Fin 16) d)
      = rowMax (chunks (N := 1024) arg2 (128 * g.val) (by omega) X2) (ix2 0 d) := by
  fin_cases g <;> rfl

theorem v500_k (d : Fin 128) : bodyRun.sl.v500 (F := Ideal) arg2 arg3 arg4 X2 X3 X4 (ix2 8 d)
    = rowMax (chunks (N := 128) arg3 0 (by omega) X3) (ix2 0 d) := rfl

theorem v500_v (d : Fin 128) : bodyRun.sl.v500 (F := Ideal) arg2 arg3 arg4 X2 X3 X4 (ix2 9 d)
    = rowMax (chunks (N := 128) arg4 0 (by omega) X4) (ix2 0 d) := rfl

theorem v502_le (r : Fin 16) (u : EReal) : bodyRun.sl.v502 (F := Ideal) arg2 arg3 arg4 X2 X3 X4 (ix2 r 0) ≤ u
    ↔ ∀ d : Fin 128, bodyRun.sl.v500 (F := Ideal) arg2 arg3 arg4 X2 X3 X4 (ix2 r d) ≤ u := by
  unfold bodyRun.sl.v502 bodyRun.sl.v501
  rw [show ∀ (W : FVec Ideal S16 .f32) h, shapeCast S16x1 W h (ix2 r 0) = W (ix1 r) from fun W h => by pointwise]
  exact redLane_le _ _ _ _ _ _

theorem headMax_of {N : Nat} {arg : Memref sig .tc .vmem ⟨3, ![1, 2048, N]⟩ .bf16} (harg : arg.IsWhole)
    (B : (⟨3, ![1, 2048, N]⟩ : Shape).Idx → EReal) (c : Nat) (hc : c + 128 ≤ N) {a : EReal}
    (h : ∀ u, a ≤ u ↔ ∀ d : Fin 128, rowMax (chunks arg c hc (harg.unread (Val := Elt Ideal) B)) (ix2 0 d) ≤ u) :
    a = headMax fun s d => B (ix3 0 s (⟨c + d.val, by omega⟩ : Fin N)) := by
  refine eq_of_forall_ge_iff fun u => ?_
  rw [h, headMax_le, forall_comm]
  refine forall_congr' fun d => ?_
  exact colMax_le _ (fun s => B (ix3 0 s (⟨c + d.val, by omega⟩ : Fin N))) d (fun i r => chunks_apply harg B c hc i r d) u

theorem v502_q (g : Fin 8) : bodyRun.sl.v502 (F := Ideal) arg2 arg3 arg4 (harg2.unread B2) (harg3.unread B3) (harg4.unread B4) (ix2 (⟨g.val, by omega⟩ : Fin 16) 0)
    = headMax fun s d => B2 (ix3 0 s (⟨128 * g.val + d.val, by omega⟩ : Fin 1024)) :=
  headMax_of harg2 B2 _ _ fun u => (v502_le ..).trans (forall_congr' fun d => by rw [v500_q])

theorem v502_k : bodyRun.sl.v502 (F := Ideal) arg2 arg3 arg4 (harg2.unread B2) (harg3.unread B3) (harg4.unread B4) (ix2 8 0)
    = headMax fun s d => B3 (ix3 0 s d) :=
  (headMax_of harg3 B3 0 (by omega) fun u => (v502_le ..).trans (forall_congr' fun d => by rw [v500_k])).trans
    (congrArg headMax (by funext s d; congr 2; exact Fin.ext (Nat.zero_add _)))

theorem v502_v : bodyRun.sl.v502 (F := Ideal) arg2 arg3 arg4 (harg2.unread B2) (harg3.unread B3) (harg4.unread B4) (ix2 9 0)
    = headMax fun s d => B4 (ix3 0 s d) :=
  (headMax_of harg4 B4 0 (by omega) fun u => (v502_le ..).trans (forall_congr' fun d => by rw [v500_v])).trans
    (congrArg headMax (by funext s d; congr 2; exact Fin.ext (Nat.zero_add _)))

theorem v561_apply (i : S16x1.Idx) : bodyRun.sl.v561 (F := Ideal) arg2 arg3 arg4 X2 X3 X4 i
    = field (bodyRun.sl.v504 (F := Ideal) arg2 arg3 arg4 X2 X3 X4 i) := by
  have s1 : bodyRun.sl.v512 (F := Ideal) arg2 arg3 arg4 X2 X3 X4 i = _ := step_apply _ _ _ _ i rfl
  have s2 : bodyRun.sl.v519 (F := Ideal) arg2 arg3 arg4 X2 X3 X4 i = _ := step_apply _ _ _ _ i rfl
  have s3 : bodyRun.sl.v526 (F := Ideal) arg2 arg3 arg4 X2 X3 X4 i = _ := step_apply _ _ _ _ i rfl
  have s4 : bodyRun.sl.v533 (F := Ideal) arg2 arg3 arg4 X2 X3 X4 i = _ := step_apply _ _ _ _ i rfl
  have s5 : bodyRun.sl.v540 (F := Ideal) arg2 arg3 arg4 X2 X3 X4 i = _ := step_apply _ _ _ _ i rfl
  have s6 : bodyRun.sl.v547 (F := Ideal) arg2 arg3 arg4 X2 X3 X4 i = _ := step_apply _ _ _ _ i rfl
  have s7 : bodyRun.sl.v554 (F := Ideal) arg2 arg3 arg4 X2 X3 X4 i = _ := step_apply _ _ _ _ i rfl
  have s8 : bodyRun.sl.v561 (F := Ideal) arg2 arg3 arg4 X2 X3 X4 i = _ := step_apply _ _ _ _ i rfl
  rw [s8, s7, s6, s5, s4, s3, s2, s1]
  rfl

theorem v565_apply (i : S16x1.Idx) : bodyRun.sl.v565 (F := Ideal) arg2 arg3 arg4 X2 X3 X4 i
    = biased (bodyRun.sl.v504 (F := Ideal) arg2 arg3 arg4 X2 X3 X4 i) := by
  have e : bodyRun.sl.v565 (F := Ideal) arg2 arg3 arg4 X2 X3 X4 i
      = Scalar.select (IntOp.cmpi .eq (bodyRun.sl.v561 (F := Ideal) arg2 arg3 arg4 X2 X3 X4 i) 0#32) 126#32
        (bodyRun.sl.v561 (F := Ideal) arg2 arg3 arg4 X2 X3 X4 i) := rfl
  rw [e, v561_apply]
  unfold biased
  by_cases h : field (bodyRun.sl.v504 (F := Ideal) arg2 arg3 arg4 X2 X3 X4 i) = 0#32
  · rw [if_pos h, h]; rfl
  · rw [if_neg h]
    refine if_neg ?_
    show ¬ BitVec.ofBool (_ == _) = 1
    rw [beq_eq_false_iff_ne.mpr h]; decide

/-- The scale column: the kernel's scale of each stacked maximum. -/
theorem v570_apply (i : S16x1.Idx) : bodyRun.sl.v570 (F := Ideal) arg2 arg3 arg4 X2 X3 X4 i
    = kscale (bodyRun.sl.v502 (F := Ideal) arg2 arg3 arg4 X2 X3 X4 i) := by
  have e : bodyRun.sl.v570 (F := Ideal) arg2 arg3 arg4 X2 X3 X4 i
      = Ideal.ofBits .f32 ((bodyRun.sl.v565 (F := Ideal) arg2 arg3 arg4 X2 X3 X4 i + 1#32) <<< (23#32).toNat) := rfl
  rw [e, v565_apply]; rfl

/-- The inverse scale column. -/
theorem v575_apply (i : S16x1.Idx) : bodyRun.sl.v575 (F := Ideal) arg2 arg3 arg4 X2 X3 X4 i
    = kinv (bodyRun.sl.v502 (F := Ideal) arg2 arg3 arg4 X2 X3 X4 i) := by
  have e : bodyRun.sl.v575 (F := Ideal) arg2 arg3 arg4 X2 X3 X4 i
      = Ideal.ofBits .f32 ((253#32 - bodyRun.sl.v565 (F := Ideal) arg2 arg3 arg4 X2 X3 X4 i) <<< (23#32).toNat) := rfl
  rw [e, v565_apply]; rfl

/-- The scales along the lanes. -/
theorem v577_apply (r : Fin 16) (d : Fin 128) : bodyRun.sl.v577 (F := Ideal) arg2 arg3 arg4 X2 X3 X4 (ix2 r d)
    = kscale (bodyRun.sl.v502 (F := Ideal) arg2 arg3 arg4 X2 X3 X4 (ix2 r 0)) := by
  rw [← v570_apply]
  unfold bodyRun.sl.v577 bodyRun.sl.v576
  pointwise
end

end Cert.KernelIdeal.Gen
-- ==== Proof.Codes.lean ====
module

public import proofs.«01_k».proof.Proof.Amax

/-!
# Codes and scales the kernel stores before its loop over the heads

Every block of codes a piece writes is the block of one function of the input block; so is the whole buffer.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-- An entry times the inverse scale, clipped to the range of the eight-bit format. -/
def code (t inv : EReal) : EReal :=
  min (Ideal.ofBits .f32 1138753536#32) (max (Ideal.ofBits .f32 3286237184#32) (t * inv))

/-- A matrix of entries scaled and clipped, as the kernel writes it. -/
def codeMat (Y : FVec Ideal S256x128 .bf16) (I : FVec Ideal S16x1 .f32) (g : Nat) (h : S16x1.Slices ![g, 0] S1x1) :
    FVec Ideal S256x128 .bf16 :=
  minimumf (broadcast S256x128 (Scalar.truncf .bf16 (by decide) (FloatOps.ofBits .f32 1138753536#32)))
    (maximumf (broadcast S256x128 (Scalar.truncf .bf16 (by decide) (FloatOps.ofBits .f32 3286237184#32)))
      (mulf Y (broadcastTo S256x128 (truncf .bf16 (extractStridedSlice S1x1 ![g, 0] I h) (by decide)) (by decide))))

theorem codeMat_apply (Y : FVec Ideal S256x128 .bf16) (I : FVec Ideal S16x1 .f32) (g : Nat) (h) (hg : g < 16)
    (r : Fin 256) (d : Fin 128) : codeMat Y I g h (ix2 r d) = code (Y (ix2 r d)) (I (ix2 ⟨g, hg⟩ 0)) := by
  unfold codeMat code
  pointwise

/-- The matrix of codes of the 256 rows from `r0` and the 128 columns from `c0` of a whole block. -/
theorem codeMat_read {N : Nat} {arg : Memref sig .tc .vmem ⟨3, ![1, 2048, N]⟩ .bf16} (harg : arg.IsWhole)
    (B : (⟨3, ![1, 2048, N]⟩ : Shape).Idx → EReal) (r0 c0 : Nat) (inb) (h) (I : FVec Ideal S16x1 .f32) (g : Nat) (hs)
    (hg : g < 16) (r : Fin 256) (d : Fin 128) (hr : r0 + 256 ≤ 2048) (hc : c0 + 128 ≤ N) :
    codeMat (shapeCast S256x128 (View.readAt (Elt Ideal) arg.view (Rect.unit (s := ⟨3, ![1, 2048, N]⟩) ![0, r0, c0] S1x256x128.size inb).toLoadRect
        (harg.unread (Val := Elt Ideal) B)) h) I g hs (ix2 r d)
      = code (B (ix3 0 (⟨r0 + r.val, by omega⟩ : Fin 2048) (⟨c0 + d.val, by omega⟩ : Fin N))) (I (ix2 ⟨g, hg⟩ 0)) := by
  rw [codeMat_apply _ _ _ _ hg]
  exact congrArg (code · _) (read3_apply harg B r0 c0 inb h r d hr hc)

/-- The codes of the query heads, as one function of the input block and the inverse scales. -/
def codesQ (B2 : S1x2048x1024.Idx → EReal) (I : FVec Ideal S16x1 .f32) (y : S1x8x2048x128.Idx) : EReal :=
  code (B2 (ix3 0 (y 2) (⟨128 * (y 1).val + (y 3).val, by
      have h1 : (y 1).val < 8 := (y 1).isLt
      have h3 : (y 3).val < 128 := (y 3).isLt
      omega⟩ : Fin 1024))) (I (ix2 (⟨(y 1).val, by have h1 : (y 1).val < 8 := (y 1).isLt; omega⟩ : Fin 16) 0))

/-- The codes of the key or the value head. -/
def codesKV (B : S1x2048x128.Idx → EReal) (inv : EReal) (y : S1x1x2048x128.Idx) : EReal :=
  code (B (ix3 0 (y 2) (y 3))) inv

/-- The value codes transposed. -/
def codesT (B : S1x2048x128.Idx → EReal) (inv : EReal) (y : S128x2048.Idx) : EReal :=
  code (B (ix3 0 (y 1) (y 0))) inv

/-- A matrix of codes, cast and given two leading unit axes, read at an index. -/
theorem cast4_apply (C : FVec Ideal S256x128 .bf16) (hb) (h' : S256x128.ShapeCasts S1x1x256x128) (x0 x1 : Fin 1) (x2 : Fin 256) (x3 : Fin 128) :
    shapeCast S1x1x256x128 (truncf .fp8e4m3 C hb) h' (ix4 x0 x1 x2 x3) = C (ix2 x2 x3) := by
  pointwise

/-- A block of query codes is the block of `codesQ` its rectangle names. -/
theorem q_piece {arg2 : Memref sig .tc .vmem S1x2048x1024 .bf16} (harg2 : arg2.IsWhole) (B2 : S1x2048x1024.Idx → EReal)
    (I : FVec Ideal S16x1 .f32) (g r0 c0 : Nat) (hc0 : c0 = 128 * g) (hg : g < 8) (hr : r0 + 256 ≤ 2048) (inb) (inb') (h) (hs) (hb) (h')
    (x : S1x1x256x128.Idx) :
    shapeCast S1x1x256x128 (truncf .fp8e4m3 (codeMat (shapeCast S256x128 (View.readAt (Elt Ideal) arg2.view
        (Rect.unit (s := S1x2048x1024) ![0, r0, c0] S1x256x128.size inb).toLoadRect (harg2.unread (Val := Elt Ideal) B2)) h) I g hs) hb) h' x
      = codesQ B2 I ((Rect.unit (s := S1x8x2048x128) ![0, g, r0, 0] S1x1x256x128.size inb').emb x) := by
  idx_vars x
  refine (cast4_apply _ hb h' x0 x1 x2 x3).trans ?_
  · refine (codeMat_read harg2 B2 r0 c0 inb h I g hs (by omega) x2 x3 hr (by omega)).trans ?_
    unfold codesQ
    have e1 : ((Rect.unit (s := S1x8x2048x128) ![0, g, r0, 0] S1x1x256x128.size inb').emb (ix4 x0 x1 x2 x3) 1).val = g := by
      show g + 1 * x1.val = g
      have := x1.isLt
      omega
    have e2 : ((Rect.unit (s := S1x8x2048x128) ![0, g, r0, 0] S1x1x256x128.size inb').emb (ix4 x0 x1 x2 x3) 2).val = r0 + x2.val := by
      show r0 + 1 * x2.val = _; omega
    have e3 : ((Rect.unit (s := S1x8x2048x128) ![0, g, r0, 0] S1x1x256x128.size inb').emb (ix4 x0 x1 x2 x3) 3).val = x3.val := by
      show 0 + 1 * x3.val = _; omega
    refine congrArg₂ code (congrArg B2 ?_) (congrArg I ?_)
    · funext a; apply Fin.ext; fin_cases a
      · rfl
      · exact e2.symm
      · show c0 + x3.val = _
        exact (congrArg (· + x3.val) hc0).trans (congrArg₂ (fun p q => 128 * p + q) e1 e3).symm
    · funext a; apply Fin.ext; fin_cases a
      · exact e1.symm
      · rfl

/-- A block of key or value codes is the block of `codesKV` its rectangle names. -/
theorem kv_piece {arg : Memref sig .tc .vmem S1x2048x128 .bf16} (harg : arg.IsWhole) (B : S1x2048x128.Idx → EReal)
    (I : FVec Ideal S16x1 .f32) (g r0 : Nat) (hg : g < 16) (hr : r0 + 256 ≤ 2048) (inb) (inb') (h) (hs) (hb) (h')
    (x : S1x1x256x128.Idx) :
    shapeCast S1x1x256x128 (truncf .fp8e4m3 (codeMat (shapeCast S256x128 (View.readAt (Elt Ideal) arg.view
        (Rect.unit (s := S1x2048x128) ![0, r0, 0] S1x256x128.size inb).toLoadRect (harg.unread (Val := Elt Ideal) B)) h) I g hs) hb) h' x
      = codesKV B (I (ix2 ⟨g, hg⟩ 0)) ((Rect.unit (s := S1x1x2048x128) ![0, 0, r0, 0] S1x1x256x128.size inb').emb x) := by
  idx_vars x
  refine Eq.trans (b := codeMat (shapeCast S256x128 (View.readAt (Elt Ideal) arg.view
        (Rect.unit (s := S1x2048x128) ![0, r0, 0] S1x256x128.size inb).toLoadRect (harg.unread (Val := Elt Ideal) B)) h) I g hs (ix2 x2 x3)) ?_ ?_
  · pointwise
  · refine (codeMat_read harg B r0 0 inb h I g hs hg x2 x3 hr (by omega)).trans ?_
    unfold codesKV
    refine congrArg (code · _) (congrArg B ?_)
    funext a; apply Fin.ext; fin_cases a
    · rfl
    · show r0 + x2.val = r0 + 1 * x2.val; omega
    · show 0 + x3.val = 0 + 1 * x3.val; omega

/-- A block of transposed value codes is the block of `codesT` its rectangle names. -/
theorem t_piece {arg : Memref sig .tc .vmem S1x2048x128 .bf16} (harg : arg.IsWhole) (B : S1x2048x128.Idx → EReal)
    (I : FVec Ideal S16x1 .f32) (g r0 : Nat) (hg : g < 16) (hr : r0 + 256 ≤ 2048) (inb) (inb') (h) (hs) (hb) (h') (ht)
    (x : S128x256.Idx) :
    shapeCast S128x256 (truncf .fp8e4m3 (transpose S128x256 [1, 0] (codeMat (shapeCast S256x128 (View.readAt (Elt Ideal) arg.view
        (Rect.unit (s := S1x2048x128) ![0, r0, 0] S1x256x128.size inb).toLoadRect (harg.unread (Val := Elt Ideal) B)) h) I g hs) ht) hb) h' x
      = codesT B (I (ix2 ⟨g, hg⟩ 0)) ((Rect.unit (s := S128x2048) ![0, r0] S128x256.size inb').emb x) := by
  idx_vars x
  refine Eq.trans (b := codeMat (shapeCast S256x128 (View.readAt (Elt Ideal) arg.view
        (Rect.unit (s := S1x2048x128) ![0, r0, 0] S1x256x128.size inb).toLoadRect (harg.unread (Val := Elt Ideal) B)) h) I g hs (ix2 x1 x0)) ?_ ?_
  · pointwise
  · refine (codeMat_read harg B r0 0 inb h I g hs hg x1 x0 hr (by omega)).trans ?_
    unfold codesT
    refine congrArg (code · _) (congrArg B ?_)
    funext a; apply Fin.ext; fin_cases a
    · rfl
    · show r0 + x1.val = r0 + 1 * x1.val; omega
    · show 0 + x0.val = 0 + 1 * x0.val; omega

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)

/-- The inverse scales of the step. -/
abbrev invs : FVec Ideal S16x1 .f32 := bodyRun.sl.v575 (F := Ideal) arg2 arg3 arg4 (harg2.unread B2) (harg3.unread B3) (harg4.unread B4)

set_option maxHeartbeats 0 in
theorem q_pieces : ∀ p ∈ bodyRun.sl.Harg6_64 (F := Ideal) arg2 arg3 arg4 (harg2.unread B2) (harg3.unread B3) (harg4.unread B4), ∀ x : p.1.shape.Idx,
    p.2 x = codesQ B2 (invs arg2 harg2 arg3 harg3 arg4 harg4 B2 B3 B4) (p.1.emb x) := by
  unfold bodyRun.sl.Harg6_64
  iterate 64
    refine List.forall_mem_cons.mpr ⟨fun x => q_piece harg2 B2 _ _ _ _ (by decide) (by decide +kernel) (by decide +kernel) (by decide +kernel) (by decide +kernel) (by decide +kernel) (by decide +kernel) (by decide +kernel) (by decide +kernel) x, ?_⟩
  exact fun _ h => absurd h List.not_mem_nil

theorem k_pieces : ∀ p ∈ bodyRun.sl.Harg8_8 (F := Ideal) arg2 arg3 arg4 (harg2.unread B2) (harg3.unread B3) (harg4.unread B4), ∀ x : p.1.shape.Idx,
    p.2 x = codesKV B3 (invs arg2 harg2 arg3 harg3 arg4 harg4 B2 B3 B4 (ix2 8 0)) (p.1.emb x) := by
  unfold bodyRun.sl.Harg8_8
  iterate 8
    refine List.forall_mem_cons.mpr ⟨fun x => kv_piece harg3 B3 _ 8 _ (by decide +kernel) (by decide +kernel) (by decide +kernel) (by decide +kernel) (by decide +kernel) (by decide +kernel) (by decide +kernel) (by decide +kernel) x, ?_⟩
  exact fun _ h => absurd h List.not_mem_nil

theorem v_pieces : ∀ p ∈ bodyRun.sl.Harg10_8 (F := Ideal) arg2 arg3 arg4 (harg2.unread B2) (harg3.unread B3) (harg4.unread B4), ∀ x : p.1.shape.Idx,
    p.2 x = codesKV B4 (invs arg2 harg2 arg3 harg3 arg4 harg4 B2 B3 B4 (ix2 9 0)) (p.1.emb x) := by
  unfold bodyRun.sl.Harg10_8
  iterate 8
    refine List.forall_mem_cons.mpr ⟨fun x => kv_piece harg4 B4 _ 9 _ (by decide +kernel) (by decide +kernel) (by decide +kernel) (by decide +kernel) (by decide +kernel) (by decide +kernel) (by decide +kernel) (by decide +kernel) x, ?_⟩
  exact fun _ h => absurd h List.not_mem_nil

theorem t_pieces : ∀ p ∈ bodyRun.sl.Harg12_8 (F := Ideal) arg2 arg3 arg4 (harg2.unread B2) (harg3.unread B3) (harg4.unread B4), ∀ x : p.1.shape.Idx,
    p.2 x = codesT B4 (invs arg2 harg2 arg3 harg3 arg4 harg4 B2 B3 B4 (ix2 9 0)) (p.1.emb x) := by
  unfold bodyRun.sl.Harg12_8
  iterate 8
    refine List.forall_mem_cons.mpr ⟨fun x => t_piece harg4 B4 _ 9 _ (by decide +kernel) (by decide +kernel) (by decide +kernel) (by decide +kernel) (by decide +kernel) (by decide +kernel) (by decide +kernel) (by decide +kernel) (by decide +kernel) x, ?_⟩
  exact fun _ h => absurd h List.not_mem_nil
end

end Cert.KernelIdeal.Gen
-- ==== Proof.Outs.lean ====
module

public import proofs.«01_k».proof.Proof.FrameI
public import proofs.«01_k».proof.Proof.Codes
public import Idealize.ShloMosaic.Lib.Pipeline.ValueKit.Tiles

/-!
# What the body leaves in the blocks of codes and scales at a grid point
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-- A single store over a whole buffer is what is read back. -/
theorem read_whole {S : Shape} {e : EltTy} (v : View sig .tc .vmem S e) (f : BufTy.Contents (Elt Ideal) v.ty) {off : Fin S.rank → Nat} (h : off = fun _ => 0)
    (inb : ∀ a, off a + S.size a ≤ S.size a) (w : S.Idx → Elt Ideal e) :
    v.read (Elt Ideal) (v.writes (Elt Ideal) f [(⟨Rect.unit off S.size inb, w⟩ : View.Piece (Elt Ideal) S e)]) = w := by
  rw [View.read_writes_eq_canon _ _ _ fun y => ⟨_, List.mem_singleton_self _, View.mem_set_unit_zero h inb y⟩]
  exact View.canon_unit_zero h inb w

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)

/-- The blocks of query codes cover their buffer; -/
theorem q_cover (X2 X3 X4) (y : S1x8x2048x128.Idx) : ∃ p ∈ bodyRun.sl.Harg6_64 (F := Ideal) arg2 arg3 arg4 X2 X3 X4, y ∈ p.1.set := by
  unfold bodyRun.sl.Harg6_64
  exact View.cover_of_tiled_head _ _ _ (by rfl) y

/-- so do those of key codes, -/
theorem k_cover (X2 X3 X4) (y : S1x1x2048x128.Idx) : ∃ p ∈ bodyRun.sl.Harg8_8 (F := Ideal) arg2 arg3 arg4 X2 X3 X4, y ∈ p.1.set := by
  unfold bodyRun.sl.Harg8_8
  exact View.cover_of_tiled_head _ _ _ (by rfl) y

/-- of value codes, -/
theorem v_cover (X2 X3 X4) (y : S1x1x2048x128.Idx) : ∃ p ∈ bodyRun.sl.Harg10_8 (F := Ideal) arg2 arg3 arg4 X2 X3 X4, y ∈ p.1.set := by
  unfold bodyRun.sl.Harg10_8
  exact View.cover_of_tiled_head _ _ _ (by rfl) y

/-- and of transposed value codes. -/
theorem t_cover (X2 X3 X4) (y : S128x2048.Idx) : ∃ p ∈ bodyRun.sl.Harg12_8 (F := Ideal) arg2 arg3 arg4 X2 X3 X4, y ∈ p.1.set := by
  unfold bodyRun.sl.Harg12_8
  exact View.cover_of_tiled_head _ _ _ (by rfl) y

/-- The inverse scale of a query head; -/
theorem inv_q (g : Fin 8) : invs arg2 harg2 arg3 harg3 arg4 harg4 B2 B3 B4 (ix2 (⟨g.val, by omega⟩ : Fin 16) 0)
    = kinv (headMax fun s d => B2 (ix3 0 s (⟨128 * g.val + d.val, by omega⟩ : Fin 1024))) := by
  rw [invs, v575_apply, v502_q]

/-- of the key head, -/
theorem inv_k : invs arg2 harg2 arg3 harg3 arg4 harg4 B2 B3 B4 (ix2 8 0) = kinv (headMax fun s d => B3 (ix3 0 s d)) := by
  rw [invs, v575_apply, v502_k]

/-- of the value head. -/
theorem inv_v : invs arg2 harg2 arg3 harg3 arg4 harg4 B2 B3 B4 (ix2 9 0) = kinv (headMax fun s d => B4 (ix3 0 s d)) := by
  rw [invs, v575_apply, v502_v]
end

variable (m : (ℓ : Loc nD τ sig) → Buf (Elt Ideal) ℓ) (c : Dev nD) (t : Fin cfg0.N)

/-- The input blocks of the point. -/
def xb : S1x2048x1024.Idx → EReal := iblk m c 0 t
def kb : S1x2048x128.Idx → EReal := iblk m c 1 t
def vb : S1x2048x128.Idx → EReal := iblk m c 2 t

/-- Largest magnitudes of the point's heads. -/
def qmax (g : Fin 8) : EReal := headMax fun s d => xb m c t (ix3 0 s (⟨128 * g.val + d.val, by omega⟩ : Fin 1024))
def kmax : EReal := headMax fun s d => kb m c t (ix3 0 s d)
def vmax : EReal := headMax fun s d => vb m c t (ix3 0 s d)

theorem out0_4_apply (g : Fin 8) (s : Fin 2048) (d : Fin 128) : out0_4 m c t (ix4 0 g s d)
    = code (xb m c t (ix3 0 s (⟨128 * g.val + d.val, by omega⟩ : Fin 1024))) (kinv (qmax m c t g)) := by
  unfold out0_4
  delta runAt bodyRun
  dsimp only
  refine (congrFun (View.read_writes_eq_canon _ _ _ (q_cover _ _ _ _ _ _)) _).trans ?_
  refine (View.canon_apply_of_pieces _ _ (q_pieces _ _ _ _ _ _ _ _ _) _ (q_cover _ _ _ _ _ _ _)).trans ?_
  exact congrArg (code _) (inv_q _ _ _ _ _ _ _ _ _ g)

theorem out0_6_apply (s : Fin 2048) (d : Fin 128) : out0_6 m c t (ix4 0 0 s d)
    = code (kb m c t (ix3 0 s d)) (kinv (kmax m c t)) := by
  unfold out0_6
  delta runAt bodyRun
  dsimp only
  refine (congrFun (View.read_writes_eq_canon _ _ _ (k_cover _ _ _ _ _ _)) _).trans ?_
  refine (View.canon_apply_of_pieces _ _ (k_pieces _ _ _ _ _ _ _ _ _) _ (k_cover _ _ _ _ _ _ _)).trans ?_
  exact congrArg (code _) (inv_k _ _ _ _ _ _ _ _ _)

theorem out0_8_apply (s : Fin 2048) (d : Fin 128) : out0_8 m c t (ix4 0 0 s d)
    = code (vb m c t (ix3 0 s d)) (kinv (vmax m c t)) := by
  unfold out0_8
  delta runAt bodyRun
  dsimp only
  refine (congrFun (View.read_writes_eq_canon _ _ _ (v_cover _ _ _ _ _ _)) _).trans ?_
  refine (View.canon_apply_of_pieces _ _ (v_pieces _ _ _ _ _ _ _ _ _) _ (v_cover _ _ _ _ _ _ _)).trans ?_
  exact congrArg (code _) (inv_v _ _ _ _ _ _ _ _ _)

end Cert.KernelIdeal.Gen
-- ==== Proof.OutScales.lean ====
module

public import proofs.«01_k».proof.Proof.Outs

/-!
# What the body leaves in the blocks of scales at a grid point
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)

theorem v581_apply (g : Fin 8) (d : Fin 128) : bodyRun.sl.v581 (F := Ideal) arg2 arg3 arg4 (harg2.unread B2) (harg3.unread B3) (harg4.unread B4) (ix4 0 0 g d)
    = kscale (headMax fun s d => B2 (ix3 0 s (⟨128 * g.val + d.val, by omega⟩ : Fin 1024))) := by
  refine Eq.trans ?_ ((v577_apply _ _ _ _ _ _ (⟨g.val, by omega⟩ : Fin 16) d).trans (congrArg kscale (v502_q arg2 harg2 arg3 harg3 arg4 harg4 B2 B3 B4 g)))
  unfold bodyRun.sl.v581 bodyRun.sl.v578
  generalize bodyRun.sl.v577 (F := Ideal) arg2 arg3 arg4 (harg2.unread B2) (harg3.unread B3) (harg4.unread B4) = X
  pointwise
  try congr 1

theorem v585_apply (d : Fin 128) : bodyRun.sl.v585 (F := Ideal) arg2 arg3 arg4 (harg2.unread B2) (harg3.unread B3) (harg4.unread B4) (ix4 0 0 0 d)
    = kscale (headMax fun s d => B3 (ix3 0 s d)) := by
  refine Eq.trans ?_ ((v577_apply _ _ _ _ _ _ (8 : Fin 16) d).trans (congrArg kscale (v502_k arg2 harg2 arg3 harg3 arg4 harg4 B2 B3 B4 )))
  unfold bodyRun.sl.v585 bodyRun.sl.v582
  generalize bodyRun.sl.v577 (F := Ideal) arg2 arg3 arg4 (harg2.unread B2) (harg3.unread B3) (harg4.unread B4) = X
  pointwise
  try congr 1

theorem v589_apply (d : Fin 128) : bodyRun.sl.v589 (F := Ideal) arg2 arg3 arg4 (harg2.unread B2) (harg3.unread B3) (harg4.unread B4) (ix4 0 0 0 d)
    = kscale (headMax fun s d => B4 (ix3 0 s d)) := by
  refine Eq.trans ?_ ((v577_apply _ _ _ _ _ _ (9 : Fin 16) d).trans (congrArg kscale (v502_v arg2 harg2 arg3 harg3 arg4 harg4 B2 B3 B4 )))
  unfold bodyRun.sl.v589 bodyRun.sl.v586
  generalize bodyRun.sl.v577 (F := Ideal) arg2 arg3 arg4 (harg2.unread B2) (harg3.unread B3) (harg4.unread B4) = X
  pointwise
  try congr 1

end

variable (m : (ℓ : Loc nD τ sig) → Buf (Elt Ideal) ℓ) (c : Dev nD) (t : Fin cfg0.N)

theorem out0_5_apply (g : Fin 8) (d : Fin 128) : out0_5 m c t (ix4 0 0 g d) = kscale (qmax m c t g) := by
  unfold out0_5
  delta runAt bodyRun
  dsimp only
  unfold bodyRun.sl.Harg7_1
  refine (congrFun (read_whole (S := S1x1x8x128) (off := ![0, 0, 0, 0]) _ _ (by decide) _ _) _).trans ?_
  exact v581_apply _ _ _ _ _ _ _ _ _ g d

theorem out0_7_apply (d : Fin 128) : out0_7 m c t (ix4 0 0 0 d) = kscale (kmax m c t) := by
  unfold out0_7
  delta runAt bodyRun
  dsimp only
  unfold bodyRun.sl.Harg9_1
  refine (congrFun (read_whole (S := S1x1x1x128) (off := ![0, 0, 0, 0]) _ _ (by decide) _ _) _).trans ?_
  exact v585_apply _ _ _ _ _ _ _ _ _ d

theorem out0_9_apply (d : Fin 128) : out0_9 m c t (ix4 0 0 0 d) = kscale (vmax m c t) := by
  unfold out0_9
  delta runAt bodyRun
  dsimp only
  unfold bodyRun.sl.Harg11_1
  refine (congrFun (read_whole (S := S1x1x1x128) (off := ![0, 0, 0, 0]) _ _ (by decide) _ _) _).trans ?_
  exact v589_apply _ _ _ _ _ _ _ _ _ d

end Cert.KernelIdeal.Gen
-- ==== Proof.Quant.lean ====
module

public import proofs.«01_k».proof.Proof.Codes
public import proofs.«01_k».proof.Proof.Gen.ReferenceIdeal.Run
public import proofs.«01_k».proof.Proof.Gen.Pre_in_range
public import Idealize.ShloMosaic.Lib.ReduceAll

/-!
# The reference's quantiser, entry by entry, and what the precondition says

Stated for an array of any number of heads: the largest magnitude of a head, its scale and its codes.
-/

@[expose] public section

set_option maxRecDepth 16384

noncomputable section

namespace Cert.Attn

open Idealize.ShloMosaic Idealize.ShloMosaic.TcCoe Idealize.ShloMosaic.Tactic
open Idealize.SL Idealize.SL.Sem
open Cert.KernelIdeal.Gen (headMax headMax_le fold_max_le bot_f32 code)

/-- A scalar. -/
abbrev T0 : Shape := ⟨0, ![]⟩
/-- One number per batch and head. -/
abbrev T2 (N : Nat) : Shape := ⟨2, ![8, N]⟩
/-- The same with unit axes for rows and lanes. -/
abbrev T4u (N : Nat) : Shape := ⟨4, ![8, 1, N, 1]⟩
/-- A batch of heads. -/
abbrev T4 (N : Nat) : Shape := ⟨4, ![8, 2048, N, 128]⟩

theorem ofBool_one (b : Bool) : BitVec.ofBool b = 1#1 ↔ b = true := by cases b <;> decide

section
variable {N : Nat} (Y : FVec Ideal (T4 N) .bf16) (hx : FTy.bits .bf16 < FTy.bits .f32) (hr : (T4 N).ReducesTo [1, 3] (T2 N))
  (h0 : 0 < T0.numel) (hb : T0.BroadcastsInDim (T2 N) (![] : Fin 0 → Fin 2)) (hb1 : (T2 N).BroadcastsInDim (T4u N) ![0, 2])
  (hb2 : (T4u N).BroadcastsInDim (T4 N) ![0, 1, 2, 3]) (hb4 : T0.BroadcastsInDim (T4 N) (![] : Fin 0 → Fin 4))
  (A : FVec Ideal (T2 N) .f32)

/-- The largest magnitudes. -/
def hAmax : FVec Ideal (T2 N) .f32 :=
  Host.reduce FloatOps.maximumf (Host.absf (extf .f32 Y hx)) (constant T0 .f32 0xFF800000#32) hr h0

/-- The exponents. -/
def hExp : FVec Ideal (T2 N) .f32 :=
  select (cmpf .oeq A (broadcastInDim (T2 N) ![] hb (constant T0 .f32 0x00000000#32))) (broadcastInDim (T2 N) ![] hb (constant T0 .f32 0x00000000#32))
    (addf (Host.floor (Host.divf (Host.log (mulf A (broadcastInDim (T2 N) ![] hb (constant T0 .f32 0x3B124925#32)))) (Host.log (broadcastInDim (T2 N) ![] hb (constant T0 .f32 0x40000000#32)))))
      (broadcastInDim (T2 N) ![] hb (constant T0 .f32 0x3F800000#32)))

/-- The scales. -/
def hScale : FVec Ideal (T2 N) .f32 := Host.exp (mulf (hExp hb A) (Host.log (broadcastInDim (T2 N) ![] hb (constant T0 .f32 0x40000000#32))))

/-- The codes. -/
def hCodes : FVec Ideal (T4 N) .f32 :=
  minimumf (maximumf (mulf (extf .f32 Y hx) (broadcastInDim (T4 N) ![0, 1, 2, 3] hb2 (broadcastInDim (T4u N) ![0, 2] hb1
      (Host.exp (mulf (Host.negf (hExp hb A)) (Host.log (broadcastInDim (T2 N) ![] hb (constant T0 .f32 0x40000000#32))))))))
    (broadcastInDim (T4 N) ![] hb4 (constant T0 .f32 0xC3E00000#32))) (broadcastInDim (T4 N) ![] hb4 (constant T0 .f32 0x43E00000#32))

theorem hAmax_apply (b : Fin 8) (n : Fin N) : hAmax Y hx hr h0 (ix2 b n) = headMax fun s d => Y (ix4 b s n d) := by
  refine eq_of_forall_ge_iff fun u => ?_
  unfold hAmax
  rw [Host.reduce_eq_fold, headMax_le]
  refine (show _ ↔ _ from (Eq.to_iff (by rw [show (constant (F := Ideal) T0 .f32 0xFF800000#32) (Shape.Idx.first h0) = ⊥ from bot_f32]; rfl))).trans
    ((fold_max_le _ (Host.absf (extf .f32 Y hx)) u).trans ?_)
  constructor
  · intro h s d
    refine h (ix4 b s n d) (Finset.mem_filter.mpr ⟨Finset.mem_univ _, ?_⟩)
    funext a; apply Fin.ext; fin_cases a <;> rfl
  · intro h i hi
    have hi' := (Finset.mem_filter.mp hi).2
    obtain ⟨i0, i1, i2, i3, rfl⟩ : ∃ (i0 : Fin 8) (i1 : Fin 2048) (i2 : Fin N) (i3 : Fin 128), i = ix4 i0 i1 i2 i3 :=
      ⟨i 0, i 1, i 2, i 3, by funext a; fin_cases a <;> rfl⟩
    have e1 : i0 = b := Fin.ext (congrArg (fun j : (T2 N).Idx => (j 0).val) hi')
    have e2 : i2 = n := Fin.ext (congrArg (fun j : (T2 N).Idx => (j 1).val) hi')
    subst e1 e2
    exact h i1 i3

theorem hExp_apply (i : (T2 N).Idx) : hExp hb A i = rexp (A i) := by
  unfold hExp rexp
  pointwise

theorem hScale_apply (i : (T2 N).Idx) : hScale hb A i = rscale (A i) := by
  unfold hScale rscale
  rw [← hExp_apply hb]
  pointwise

theorem hCodes_apply (hN : N ≠ 1) (b : Fin 8) (s : Fin 2048) (n : Fin N) (d : Fin 128) :
    hCodes Y hx hb hb1 hb2 hb4 A (ix4 b s n d) = code (Y (ix4 b s n d)) (rinv (A (ix2 b n))) := by
  unfold hCodes code rinv
  rw [← hExp_apply hb]
  pointwise
  rw [min_comm, max_comm]
  refine congrArg (fun i => min _ (max _ (Y _ * Ideal.exp (-hExp hb A i * _)))) ?_
  funext a; apply Fin.ext; fin_cases a
  · rfl
  · simp [hN, Shape.Idx.norm]

/-- A test over all heads that came out true was true of each. -/
theorem all_ok (hr' : (T2 N).ReducesTo [0, 1] T0) (j : T0.Idx)
    (h : Host.reduce IntOp.andi (ori (cmpf .oeq A (broadcastInDim (T2 N) ![] hb (constant T0 .f32 0x00000000#32)))
      (andi (cmpf .oge A (broadcastInDim (T2 N) ![] hb (constant T0 .f32 0x05000000#32)))
        (cmpf .ole A (broadcastInDim (T2 N) ![] hb (constant T0 .f32 0x7F7F0000#32))))) (constantI T0 1 1#1) hr' h0 j = 1#1)
    (i : (T2 N).Idx) : Ok (A i) := by
  haveI : Subsingleton T0.Idx := ⟨fun a b => funext fun x => x.elim0⟩
  have h1 := Host.reduce_andi_all _ _ _ _ _ h i
  have h2 : IntOp.ori (Ideal.cmp .oeq (A i) (Ideal.ofBits .f32 0x00000000#32)) (IntOp.andi (Ideal.cmp .oge (A i) (Ideal.ofBits .f32 0x05000000#32))
      (Ideal.cmp .ole (A i) (Ideal.ofBits .f32 0x7F7F0000#32))) = 1#1 := h1
  have h3 : (Ideal.ofBits .f32 0x00000000#32) = 0 := by simp [Ideal.ofBits, Ideal.ieee]
  rw [h3] at h2
  rcases IntOp.ori_eq_one.1 h2 with h4 | h4
  · left
    simpa [Ideal.cmp, ofBool_one] using h4
  · right
    obtain ⟨h5, h6⟩ := IntOp.andi_eq_one.1 h4
    exact ⟨by simpa [Ideal.cmp, ofBool_one] using h5, by simpa [Ideal.cmp, ofBool_one] using h6⟩
end

/-- Query columns as heads; -/
theorem cast16_apply (X : FVec Ideal ⟨3, ![8, 2048, 2048]⟩ .bf16) (h : (⟨3, ![8, 2048, 2048]⟩ : Shape).ShapeCasts (T4 16))
    (b : Fin 8) (s : Fin 2048) (n : Fin 16) (d : Fin 128) :
    shapeCast (T4 16) X h (ix4 b s n d) = X (ix3 b s (⟨128 * n.val + d.val, by omega⟩ : Fin 2048)) := by
  pointwise
  simp only [Nat.mul_comm]

/-- key or value columns as heads. -/
theorem cast2_apply (X : FVec Ideal ⟨3, ![8, 2048, 256]⟩ .bf16) (h : (⟨3, ![8, 2048, 256]⟩ : Shape).ShapeCasts (T4 2))
    (b : Fin 8) (s : Fin 2048) (n : Fin 2) (d : Fin 128) :
    shapeCast (T4 2) X h (ix4 b s n d) = X (ix3 b s (⟨128 * n.val + d.val, by omega⟩ : Fin 256)) := by
  pointwise
  simp only [Nat.mul_comm]

/-- The largest magnitude of a query head; -/
def amaxQ (X : FVec Ideal ⟨3, ![8, 2048, 2048]⟩ .bf16) (b : Fin 8) (n : Fin 16) : EReal :=
  headMax fun s d => X (ix3 b s (⟨128 * n.val + d.val, by omega⟩ : Fin 2048))

/-- of a key or value head. -/
def amaxKV (X : FVec Ideal ⟨3, ![8, 2048, 256]⟩ .bf16) (b : Fin 8) (n : Fin 2) : EReal :=
  headMax fun s d => X (ix3 b s (⟨128 * n.val + d.val, by omega⟩ : Fin 256))

theorem amaxQ_eq (X : FVec Ideal ⟨3, ![8, 2048, 2048]⟩ .bf16) (h) (hx) (hr) (h0) (b : Fin 8) (n : Fin 16) :
    hAmax (shapeCast (T4 16) X h) hx hr h0 (ix2 b n) = amaxQ X b n := by
  rw [hAmax_apply]
  unfold amaxQ
  simp only [cast16_apply]

theorem amaxKV_eq (X : FVec Ideal ⟨3, ![8, 2048, 256]⟩ .bf16) (h) (hx) (hr) (h0) (b : Fin 8) (n : Fin 2) :
    hAmax (shapeCast (T4 2) X h) hx hr h0 (ix2 b n) = amaxKV X b n := by
  rw [hAmax_apply]
  unfold amaxKV
  simp only [cast2_apply]

/-- The precondition, head by head. -/
theorem pre_ok (X0 : FVec Ideal ⟨3, ![8, 2048, 2048]⟩ .bf16) (X1 X2 : FVec Ideal ⟨3, ![8, 2048, 256]⟩ .bf16)
    (h : Cert.Pre_in_range.fn (F := Ideal) X0 X1 X2 = fun _ => 1#1) :
    (∀ b n, Ok (amaxQ X0 b n)) ∧ (∀ b n, Ok (amaxKV X1 b n)) ∧ ∀ b n, Ok (amaxKV X2 b n) := by
  have h1 := congrFun h ix0
  obtain ⟨h2, h3⟩ := IntOp.andi_eq_one.1 h1
  obtain ⟨h4, h5⟩ := IntOp.andi_eq_one.1 h2
  obtain ⟨h6, h7⟩ := IntOp.andi_eq_one.1 h4
  refine ⟨fun b n => ?_, fun b n => ?_, fun b n => ?_⟩
  · exact (amaxQ_eq X0 _ _ _ _ b n) ▸ all_ok _ _ _ _ _ h7 (ix2 b n)
  · exact (amaxKV_eq X1 _ _ _ _ b n) ▸ all_ok _ _ _ _ _ h5 (ix2 b n)
  · exact (amaxKV_eq X2 _ _ _ _ b n) ▸ all_ok _ _ _ _ _ h3 (ix2 b n)

/-- The reference's codes and scales of the queries; -/
theorem codesRQ (X : FVec Ideal ⟨3, ![8, 2048, 2048]⟩ .bf16) (h) (hx) (hr) (h0) (hb) (hb1) (hb2) (hb4) (b : Fin 8) (s : Fin 2048) (n : Fin 16) (d : Fin 128) :
    hCodes (shapeCast (T4 16) X h) hx hb hb1 hb2 hb4 (hAmax (shapeCast (T4 16) X h) hx hr h0) (ix4 b s n d)
      = code (X (ix3 b s (⟨128 * n.val + d.val, by omega⟩ : Fin 2048))) (rinv (amaxQ X b n)) := by
  rw [hCodes_apply _ _ _ _ _ _ _ (by decide), amaxQ_eq, cast16_apply]

/-- of the keys and the values. -/
theorem codesRKV (X : FVec Ideal ⟨3, ![8, 2048, 256]⟩ .bf16) (h) (hx) (hr) (h0) (hb) (hb1) (hb2) (hb4) (b : Fin 8) (s : Fin 2048) (n : Fin 2) (d : Fin 128) :
    hCodes (shapeCast (T4 2) X h) hx hb hb1 hb2 hb4 (hAmax (shapeCast (T4 2) X h) hx hr h0) (ix4 b s n d)
      = code (X (ix3 b s (⟨128 * n.val + d.val, by omega⟩ : Fin 256))) (rinv (amaxKV X b n)) := by
  rw [hCodes_apply _ _ _ _ _ _ _ (by decide), amaxKV_eq, cast2_apply]

end Cert.Attn
-- ==== Proof.Arrays.lean ====
module

public import proofs.«01_k».proof.Proof.OutScales
public import proofs.«01_k».proof.Proof.Quant
public import Idealize.ShloMosaic.Lib.Pipeline.ValueKit

/-!
# The arrays of codes and scales after the launch
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

variable (m : (ℓ : Loc nD τ sig) → Buf (Elt Ideal) ℓ) (c : Dev nD)

/-- The argument arrays. -/
def A0 : S8x2048x2048.Idx → EReal := m ((c : Thread nD τ).loc main_arg0)
def A1 : S8x2048x256.Idx → EReal := m ((c : Thread nD τ).loc main_arg1)
def A2 : S8x2048x256.Idx → EReal := m ((c : Thread nD τ).loc main_arg2)

/-- The batch entry and the key-value head of a grid point. -/
def bt (t : Fin cfg0.N) : Fin 8 := ⟨t.val / 2, by have := t.isLt; have : grid0.N = 16 := N_0; change t.val < grid0.N at *; omega⟩
def ht (t : Fin cfg0.N) : Fin 2 := ⟨t.val % 2, by omega⟩

theorem index0_0 : ∀ t : Fin cfg0.N, win0_0.index t = ![t.val / 2, 0, t.val % 2] := (by decide +kernel : ∀ t : Fin grid0.N, _)
theorem index0_1 : ∀ t : Fin cfg0.N, win0_1.index t = ![t.val / 2, 0, t.val % 2] := (by decide +kernel : ∀ t : Fin grid0.N, _)
theorem index0_2 : ∀ t : Fin cfg0.N, win0_2.index t = ![t.val / 2, 0, t.val % 2] := (by decide +kernel : ∀ t : Fin grid0.N, _)
theorem index0_3 : ∀ t : Fin cfg0.N, win0_3.index t = ![t.val / 2, 0, t.val % 2] := (by decide +kernel : ∀ t : Fin grid0.N, _)
theorem index0_4 : ∀ t : Fin cfg0.N, win0_4.index t = ![t.val / 2, t.val % 2, 0, 0] := (by decide +kernel : ∀ t : Fin grid0.N, _)
theorem index0_5 : ∀ t : Fin cfg0.N, win0_5.index t = ![t.val / 2, t.val % 2, 0, 0] := (by decide +kernel : ∀ t : Fin grid0.N, _)
theorem index0_6 : ∀ t : Fin cfg0.N, win0_6.index t = ![t.val / 2, t.val % 2, 0, 0] := (by decide +kernel : ∀ t : Fin grid0.N, _)
theorem index0_7 : ∀ t : Fin cfg0.N, win0_7.index t = ![t.val / 2, t.val % 2, 0, 0] := (by decide +kernel : ∀ t : Fin grid0.N, _)
theorem index0_8 : ∀ t : Fin cfg0.N, win0_8.index t = ![t.val / 2, t.val % 2, 0, 0] := (by decide +kernel : ∀ t : Fin grid0.N, _)
theorem index0_9 : ∀ t : Fin cfg0.N, win0_9.index t = ![t.val / 2, t.val % 2, 0, 0] := (by decide +kernel : ∀ t : Fin grid0.N, _)

theorem xb_apply (t : Fin cfg0.N) (s : Fin 2048) (l : Fin 1024) :
    xb m c t (ix3 0 s l) = A0 m c (ix3 (bt t) s (⟨1024 * (ht t).val + l.val, by have := (ht t).isLt; omega⟩ : Fin 2048)) := by
  unfold xb A0
  blk_ext [iblk, V, V0, index0_0 t, bt, ht]

theorem kb_apply (t : Fin cfg0.N) (s : Fin 2048) (l : Fin 128) :
    kb m c t (ix3 0 s l) = A1 m c (ix3 (bt t) s (⟨128 * (ht t).val + l.val, by have := (ht t).isLt; omega⟩ : Fin 256)) := by
  unfold kb A1
  blk_ext [iblk, V, V0, index0_1 t, bt, ht]

theorem vb_apply (t : Fin cfg0.N) (s : Fin 2048) (l : Fin 128) :
    vb m c t (ix3 0 s l) = A2 m c (ix3 (bt t) s (⟨128 * (ht t).val + l.val, by have := (ht t).isLt; omega⟩ : Fin 256)) := by
  unfold vb A2
  blk_ext [iblk, V, V0, index0_2 t, bt, ht]

theorem qmax_eq (t : Fin cfg0.N) (g : Fin 8) : qmax m c t g = amaxQ (A0 m c) (bt t) (⟨8 * (ht t).val + g.val, by have := (ht t).isLt; omega⟩ : Fin 16) := by
  unfold qmax amaxQ
  refine congrArg headMax (funext fun s => funext fun d => ?_)
  rw [xb_apply]
  congr 2
  apply Fin.ext
  simp only []
  omega

theorem kmax_eq (t : Fin cfg0.N) : kmax m c t = amaxKV (A1 m c) (bt t) (ht t) := by
  unfold kmax amaxKV
  exact congrArg headMax (funext fun s => funext fun d => kb_apply m c t s d)

theorem vmax_eq (t : Fin cfg0.N) : vmax m c t = amaxKV (A2 m c) (bt t) (ht t) := by
  unfold vmax amaxKV
  exact congrArg headMax (funext fun s => funext fun d => vb_apply m c t s d)

theorem emb4 (t : Fin cfg0.N) (g : Fin 8) (s : Fin 2048) (d : Fin 128) : ((cfg0.win 4).blk t).view.emb (ix4 0 g s d)
    = (ix4 (bt t) (⟨8 * (ht t).val + g.val, by have := (ht t).isLt; omega⟩ : Fin 16) s d : S8x16x2048x128.Idx) := by
  blk_ext [index0_4 t, bt, ht]

/-- What the array of window 4 holds after the launch. -/
def G4 (i : S8x16x2048x128.Idx) : EReal := code (A0 m c (ix3 (i 0) (i 2) (⟨128 * (i 1).val + (i 3).val, by have := (i 1).isLt; have := (i 3).isLt; simp at *; omega⟩ : Fin 2048))) (kinv (amaxQ (A0 m c) (i 0) (i 1)))

theorem arr4 : (dats m 0 c).arrAt 4 cfg0.N = G4 m c := by
  refine (dats m 0 c).arrAt_eq_of_covers 4 (G4 m c) (by decide +kernel) fun t hf y => ?_
  obtain ⟨g, s, d, rfl⟩ : ∃ (g : Fin 8) (s : Fin 2048) (d : Fin 128), y = ix4 0 g s d :=
    ⟨y 1, y 2, y 3, by funext a; fin_cases a <;> first | rfl | exact Subsingleton.elim (α := Fin 1) _ _⟩
  refine Eq.trans ?_ (congrArg (G4 m c) (emb4 t g s d).symm)
  blk_simp
  rw [after0_4]
  refine (out0_4_apply m c t g s d).trans ?_
  rw [xb_apply, qmax_eq]
  refine congrArg₂ code (congrArg (A0 m c) ?_) rfl
  refine congrArg (ix3 _ _) (Fin.ext ?_)
  show 1024 * (ht t).val + (128 * g.val + d.val) = 128 * (8 * (ht t).val + g.val) + d.val
  omega

theorem emb5 (t : Fin cfg0.N) (g : Fin 8) (d : Fin 128) : ((cfg0.win 5).blk t).view.emb (ix4 0 0 g d)
    = (ix4 (bt t) (ht t) g d : S8x2x8x128.Idx) := by
  blk_ext [index0_5 t, bt, ht]

/-- What the array of window 5 holds after the launch. -/
def G5 (i : S8x2x8x128.Idx) : EReal := kscale (amaxQ (A0 m c) (i 0) (⟨8 * (i 1).val + (i 2).val, by have := (i 1).isLt; have := (i 2).isLt; simp at *; omega⟩ : Fin 16))

theorem arr5 : (dats m 0 c).arrAt 5 cfg0.N = G5 m c := by
  refine (dats m 0 c).arrAt_eq_of_covers 5 (G5 m c) (by decide +kernel) fun t hf y => ?_
  obtain ⟨g, d, rfl⟩ : ∃ (g : Fin 8) (d : Fin 128), y = ix4 0 0 g d :=
    ⟨y 2, y 3, by funext a; fin_cases a <;> first | rfl | exact Subsingleton.elim (α := Fin 1) _ _⟩
  refine Eq.trans ?_ (congrArg (G5 m c) (emb5 t g d).symm)
  blk_simp
  rw [after0_5]
  refine (out0_5_apply m c t g d).trans ?_
  rw [qmax_eq]
  rfl

theorem emb6 (t : Fin cfg0.N) (s : Fin 2048) (d : Fin 128) : ((cfg0.win 6).blk t).view.emb (ix4 0 0 s d)
    = (ix4 (bt t) (ht t) s d : S8x2x2048x128.Idx) := by
  blk_ext [index0_6 t, bt, ht]

/-- What the array of window 6 holds after the launch. -/
def G6 (i : S8x2x2048x128.Idx) : EReal := code (A1 m c (ix3 (i 0) (i 2) (⟨128 * (i 1).val + (i 3).val, by have := (i 1).isLt; have := (i 3).isLt; simp at *; omega⟩ : Fin 256))) (kinv (amaxKV (A1 m c) (i 0) (i 1)))

theorem arr6 : (dats m 0 c).arrAt 6 cfg0.N = G6 m c := by
  refine (dats m 0 c).arrAt_eq_of_covers 6 (G6 m c) (by decide +kernel) fun t hf y => ?_
  obtain ⟨s, d, rfl⟩ : ∃ (s : Fin 2048) (d : Fin 128), y = ix4 0 0 s d :=
    ⟨y 2, y 3, by funext a; fin_cases a <;> first | rfl | exact Subsingleton.elim (α := Fin 1) _ _⟩
  refine Eq.trans ?_ (congrArg (G6 m c) (emb6 t s d).symm)
  blk_simp
  rw [after0_6]
  refine (out0_6_apply m c t s d).trans ?_
  rw [kb_apply, kmax_eq]
  rfl

theorem emb7 (t : Fin cfg0.N) (d : Fin 128) : ((cfg0.win 7).blk t).view.emb (ix4 0 0 0 d)
    = (ix4 (bt t) (ht t) 0 d : S8x2x1x128.Idx) := by
  blk_ext [index0_7 t, bt, ht]

/-- What the array of window 7 holds after the launch. -/
def G7 (i : S8x2x1x128.Idx) : EReal := kscale (amaxKV (A1 m c) (i 0) (i 1))

theorem arr7 : (dats m 0 c).arrAt 7 cfg0.N = G7 m c := by
  refine (dats m 0 c).arrAt_eq_of_covers 7 (G7 m c) (by decide +kernel) fun t hf y => ?_
  obtain ⟨d, rfl⟩ : ∃ (d : Fin 128), y = ix4 0 0 0 d :=
    ⟨y 3, by funext a; fin_cases a <;> first | rfl | exact Subsingleton.elim (α := Fin 1) _ _⟩
  refine Eq.trans ?_ (congrArg (G7 m c) (emb7 t d).symm)
  blk_simp
  rw [after0_7]
  refine (out0_7_apply m c t d).trans ?_
  rw [kmax_eq]
  rfl

theorem emb8 (t : Fin cfg0.N) (s : Fin 2048) (d : Fin 128) : ((cfg0.win 8).blk t).view.emb (ix4 0 0 s d)
    = (ix4 (bt t) (ht t) s d : S8x2x2048x128.Idx) := by
  blk_ext [index0_8 t, bt, ht]

/-- What the array of window 8 holds after the launch. -/
def G8 (i : S8x2x2048x128.Idx) : EReal := code (A2 m c (ix3 (i 0) (i 2) (⟨128 * (i 1).val + (i 3).val, by have := (i 1).isLt; have := (i 3).isLt; simp at *; omega⟩ : Fin 256))) (kinv (amaxKV (A2 m c) (i 0) (i 1)))

theorem arr8 : (dats m 0 c).arrAt 8 cfg0.N = G8 m c := by
  refine (dats m 0 c).arrAt_eq_of_covers 8 (G8 m c) (by decide +kernel) fun t hf y => ?_
  obtain ⟨s, d, rfl⟩ : ∃ (s : Fin 2048) (d : Fin 128), y = ix4 0 0 s d :=
    ⟨y 2, y 3, by funext a; fin_cases a <;> first | rfl | exact Subsingleton.elim (α := Fin 1) _ _⟩
  refine Eq.trans ?_ (congrArg (G8 m c) (emb8 t s d).symm)
  blk_simp
  rw [after0_8]
  refine (out0_8_apply m c t s d).trans ?_
  rw [vb_apply, vmax_eq]
  rfl

theorem emb9 (t : Fin cfg0.N) (d : Fin 128) : ((cfg0.win 9).blk t).view.emb (ix4 0 0 0 d)
    = (ix4 (bt t) (ht t) 0 d : S8x2x1x128.Idx) := by
  blk_ext [index0_9 t, bt, ht]

/-- What the array of window 9 holds after the launch. -/
def G9 (i : S8x2x1x128.Idx) : EReal := kscale (amaxKV (A2 m c) (i 0) (i 1))

theorem arr9 : (dats m 0 c).arrAt 9 cfg0.N = G9 m c := by
  refine (dats m 0 c).arrAt_eq_of_covers 9 (G9 m c) (by decide +kernel) fun t hf y => ?_
  obtain ⟨d, rfl⟩ : ∃ (d : Fin 128), y = ix4 0 0 0 d :=
    ⟨y 3, by funext a; fin_cases a <;> first | rfl | exact Subsingleton.elim (α := Fin 1) _ _⟩
  refine Eq.trans ?_ (congrArg (G9 m c) (emb9 t d).symm)
  blk_simp
  rw [after0_9]
  refine (out0_9_apply m c t d).trans ?_
  rw [vmax_eq]
  rfl

theorem emb3 (t : Fin cfg0.N) (s : Fin 2048) (l : Fin 1024) : ((cfg0.win 3).blk t).view.emb (ix3 0 s l)
    = (ix3 (bt t) s (⟨1024 * (ht t).val + l.val, by have := (ht t).isLt; omega⟩ : Fin 2048) : S8x2048x2048.Idx) := by
  blk_ext [index0_3 t, bt, ht]

/-- The output array is `G` when each block of it is. -/
theorem arr3 (G : S8x2048x2048.Idx → EReal)
    (H : ∀ t (s : Fin 2048) (l : Fin 1024), out0_3 m c t (ix3 0 s l) = G (ix3 (bt t) s (⟨1024 * (ht t).val + l.val, by have := (ht t).isLt; omega⟩ : Fin 2048))) :
    (dats m 0 c).arrAt 3 cfg0.N = G := by
  refine (dats m 0 c).arrAt_eq_of_covers 3 G (by decide +kernel) fun t hf y => ?_
  obtain ⟨s, l, rfl⟩ : ∃ (s : Fin 2048) (l : Fin 1024), y = ix3 0 s l :=
    ⟨y 1, y 2, by funext a; fin_cases a <;> first | rfl | exact Subsingleton.elim (α := Fin 1) _ _⟩
  refine Eq.trans ?_ (congrArg G (emb3 t s l).symm)
  blk_simp
  rw [after0_3]
  exact H t s l

end Cert.KernelIdeal.Gen
-- ==== Proof.Tail.lean ====
module

public import proofs.«01_k».proof.Proof.Arrays

/-!
# The returned codes and scales: the host operations after the launch
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

variable (m : (ℓ : Loc nD τ sig) → Buf (Elt Ideal) ℓ) (c : Dev nD)

/-- Each buffer of a core after the launch and the host operations. -/
abbrev fin (b : Ref sig .tc) := Pipeline.afterTail₀ cfgs (dats m) 0 (V0 m) [hostOps1] c b

theorem arrRef_inj : Function.Injective (Pipeline.arrRef spec0) := by decide

/-- Three ways in which the host lays a scale array out. -/
theorem flat16_apply (X : S8x2x8x128.Idx → EReal) (h1 : S8x2x8x128.Slices ![0, 0, 0, 0] S8x2x8x1) (h2 : S8x2x8x1.ShapeCasts S8x2x8) (h3 : S8x2x8.ShapeCasts S8x16) (b : Fin 8) (n : Fin 16) :
    shapeCast S8x16 (shapeCast S8x2x8 (extractStridedSlice S8x2x8x1 ![0, 0, 0, 0] X h1) h2) h3 (ix2 b n)
      = X (ix4 b (⟨n.val / 8, by omega⟩ : Fin 2) (⟨n.val % 8, by omega⟩ : Fin 8) 0) := by
  pointwise

theorem flat2_apply (X : S8x2x1x128.Idx → EReal) (h1 : S8x2x1x128.Slices ![0, 0, 0, 0] S8x2x1x1) (h2 : S8x2x1x1.ShapeCasts S8x2) (b : Fin 8) (n : Fin 2) :
    shapeCast S8x2 (extractStridedSlice S8x2x1x1 ![0, 0, 0, 0] X h1) h2 (ix2 b n) = X (ix4 b n 0 0) := by
  pointwise
  try rfl

/-- The query scales. -/
theorem fin_v3 (b : Fin 8) (n : Fin 16) : fin m c main_v3 (ix2 b n) = kscale (amaxQ (A0 m c) b n) := by
  unfold fin Pipeline.afterTail₀
  simp only [List.flatten_cons, List.flatten_nil, List.append_nil]
  after_results
  rw [Pipeline.withArrays_arr spec0 arrRef_inj c _ _ (5 : Fin 10)]
  refine (flat16_apply ((dats m 0 c).arrAt 5 cfg0.N) _ _ _ b n).trans ?_
  rw [arr5]
  refine congrArg (fun k => kscale (amaxQ (A0 m c) b k)) (Fin.ext ?_)
  show 8 * (n.val / 8) + n.val % 8 = n.val
  omega
/-- The key scales. -/
theorem fin_v7 (b : Fin 8) (n : Fin 2) : fin m c main_v7 (ix2 b n) = kscale (amaxKV (A1 m c) b n) := by
  unfold fin Pipeline.afterTail₀
  simp only [List.flatten_cons, List.flatten_nil, List.append_nil]
  after_results
  rw [Pipeline.withArrays_arr spec0 arrRef_inj c _ _ (7 : Fin 10)]
  refine (flat2_apply ((dats m 0 c).arrAt 7 cfg0.N) _ _ b n).trans ?_
  rw [arr7]
  rfl
/-- The value scales. -/
theorem fin_v10 (b : Fin 8) (n : Fin 2) : fin m c main_v10 (ix2 b n) = kscale (amaxKV (A2 m c) b n) := by
  unfold fin Pipeline.afterTail₀
  simp only [List.flatten_cons, List.flatten_nil, List.append_nil]
  after_results
  rw [Pipeline.withArrays_arr spec0 arrRef_inj c _ _ (9 : Fin 10)]
  refine (flat2_apply ((dats m 0 c).arrAt 9 cfg0.N) _ _ b n).trans ?_
  rw [arr9]
  rfl
/-- The query codes. -/
theorem fin_v4 (b : Fin 8) (s : Fin 2048) (n : Fin 16) (d : Fin 128) : fin m c main_v4 (ix4 b s n d) = code (A0 m c (ix3 b s (⟨128 * n.val + d.val, by omega⟩ : Fin 2048))) (kinv (amaxQ (A0 m c) b n)) := by
  unfold fin Pipeline.afterTail₀
  simp only [List.flatten_cons, List.flatten_nil, List.append_nil]
  after_results
  rw [Pipeline.withArrays_arr spec0 arrRef_inj c _ _ (4 : Fin 10)]
  refine (show _ = (dats m 0 c).arrAt 4 cfg0.N (ix4 b n s d) from ?_).trans (by rw [arr4]; rfl)
  generalize (dats m 0 c).arrAt 4 cfg0.N = X
  pointwise
  try rfl
/-- The key codes. -/
theorem fin_v5 (b : Fin 8) (s : Fin 2048) (n : Fin 2) (d : Fin 128) : fin m c main_v5 (ix4 b s n d) = code (A1 m c (ix3 b s (⟨128 * n.val + d.val, by omega⟩ : Fin 256))) (kinv (amaxKV (A1 m c) b n)) := by
  unfold fin Pipeline.afterTail₀
  simp only [List.flatten_cons, List.flatten_nil, List.append_nil]
  after_results
  rw [Pipeline.withArrays_arr spec0 arrRef_inj c _ _ (6 : Fin 10)]
  refine (show _ = (dats m 0 c).arrAt 6 cfg0.N (ix4 b n s d) from ?_).trans (by rw [arr6]; rfl)
  generalize (dats m 0 c).arrAt 6 cfg0.N = X
  pointwise
  try rfl
/-- The value codes. -/
theorem fin_v8 (b : Fin 8) (s : Fin 2048) (n : Fin 2) (d : Fin 128) : fin m c main_v8 (ix4 b s n d) = code (A2 m c (ix3 b s (⟨128 * n.val + d.val, by omega⟩ : Fin 256))) (kinv (amaxKV (A2 m c) b n)) := by
  unfold fin Pipeline.afterTail₀
  simp only [List.flatten_cons, List.flatten_nil, List.append_nil]
  after_results
  rw [Pipeline.withArrays_arr spec0 arrRef_inj c _ _ (8 : Fin 10)]
  refine (show _ = (dats m 0 c).arrAt 8 cfg0.N (ix4 b n s d) from ?_).trans (by rw [arr8]; rfl)
  generalize (dats m 0 c).arrAt 8 cfg0.N = X
  pointwise
  try rfl

end Cert.KernelIdeal.Gen
-- ==== Proof.Softmax.lean ====
module

public import Idealize.ShloMosaic.Lib.Pointwise

/-!
# One query's softmax, over the extended reals

The kernel subtracts the unscaled maximum over the keys of the query's tiles, multiplies by scale over `log 2` and takes
a power of two; the reference scales first, takes the maximum over every key and exponentiates. Keys after the query
have score `⊥`, so they change neither a maximum nor a sum. The two weighted means are equal.
-/

@[expose] public section

noncomputable section

namespace Cert.Attn

open Idealize.ShloMosaic

/-- A score, or `⊥` for a key after the query `q`. -/
def masked (q : ℕ) (S : ℕ → EReal) (κ : ℕ) : EReal := if κ ≤ q then S κ else ⊥

/-- The kernel's weight of a key. -/
def kweight (q : ℕ) (S : ℕ → EReal) (m c : EReal) (κ : ℕ) : EReal := Ideal.exp2 ((masked q S κ - m) * c)

/-- The reference's weight of a key. -/
def rweight (q : ℕ) (S : ℕ → EReal) (m : EReal) (κ : ℕ) : EReal := Ideal.exp (masked q S κ - m)

/-- `m` is the greatest of the first `n` masked scores. -/
def IsMax (n q : ℕ) (S : ℕ → EReal) (m : EReal) : Prop := ∀ u, m ≤ u ↔ ∀ κ, κ < n → masked q S κ ≤ u

/-- The kernel's output entry. -/
def kmean (n q : ℕ) (S V : ℕ → EReal) (m c vsc : EReal) : EReal :=
  (∑ κ : Fin n, V κ * kweight q S m c κ) * Ideal.div vsc (∑ κ : Fin n, kweight q S m c κ)

/-- The reference's output entry. -/
def rmean (n q : ℕ) (S V : ℕ → EReal) (m vsc : EReal) : EReal :=
  Ideal.div ((∑ κ : Fin n, V κ * rweight q S m κ) * vsc) (∑ κ : Fin n, rweight q S m κ)

theorem isMax_eq {n q : ℕ} (hq : q < n) {S : ℕ → ℝ} {M : ℝ} {κ₀ : ℕ} (h0 : κ₀ ≤ q) (hM : S κ₀ = M)
    (hle : ∀ κ, κ ≤ q → S κ ≤ M) {m : EReal} (h : IsMax n q (fun κ => (S κ : EReal)) m) : m = (M : EReal) := by
  apply le_antisymm
  · rw [h]
    intro κ _
    unfold masked
    split
    · exact EReal.coe_le_coe_iff.mpr (hle κ ‹_›)
    · exact bot_le
  · have := (h m).mp le_rfl κ₀ (by omega)
    unfold masked at this
    rw [if_pos h0] at this
    exact hM ▸ this

theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- A sum of reals over `Fin n` whose terms vanish past `q` is the sum of the first `q + 1`. -/
theorem sum_masked (n q : ℕ) (hq : q < n) (f : ℕ → ℝ) :
    ∑ κ : Fin n, (((if κ.val ≤ q then f κ.val else 0 : ℝ)) : EReal) = ((∑ κ ∈ Finset.range (q + 1), f κ : ℝ) : EReal) := by
  rw [← coe_sum]
  refine congrArg Real.toEReal ?_
  rw [Fin.sum_univ_eq_sum_range (fun κ => if κ ≤ q then f κ else 0) n]
  rw [← Finset.sum_filter]
  congr 1
  ext κ
  simp only [Finset.mem_filter, Finset.mem_range]
  omega

theorem mean_eq {n q : ℕ} (hn : q < n) {n' : ℕ} (hn' : q < n') (S V : ℕ → ℝ) {ss : ℝ} (hss : 0 < ss) (vsc : ℝ)
    {m m' : EReal} (hm : IsMax n q (fun κ => (S κ : EReal)) m)
    (hm' : IsMax n' q (fun κ => (S κ : EReal) * (ss : EReal)) m') :
    kmean n q (fun κ => (S κ : EReal)) (fun κ => (V κ : EReal)) m ((ss * (Real.log 2)⁻¹ : ℝ) : EReal) vsc
      = rmean n' q (fun κ => (S κ : EReal) * (ss : EReal)) (fun κ => (V κ : EReal)) m' vsc := by
  obtain ⟨κ₀, h0, hmax⟩ := Finset.exists_max_image (Finset.range (q + 1)) S ⟨0, by simp⟩
  have h0 : κ₀ ≤ q := by simpa [Nat.lt_succ_iff] using h0
  have hmax : ∀ κ, κ ≤ q → S κ ≤ S κ₀ := fun κ h => hmax κ (by simpa [Nat.lt_succ_iff] using h)
  have e1 : m = (S κ₀ : EReal) := isMax_eq hn h0 rfl hmax hm
  have e2 : m' = ((S κ₀ * ss : ℝ) : EReal) := by
    refine isMax_eq (S := fun κ => S κ * ss) hn' h0 rfl (fun κ h => mul_le_mul_of_nonneg_right (hmax κ h) hss.le) ?_
    simpa only [EReal.coe_mul] using hm'
  have hl2 : 0 < Real.log 2 := Real.log_pos (by norm_num)
  let P : ℕ → ℝ := fun κ => Real.exp ((S κ - S κ₀) * ss)
  have w1 : ∀ κ, kweight q (fun κ => (S κ : EReal)) m ((ss * (Real.log 2)⁻¹ : ℝ) : EReal) κ
      = ((if κ ≤ q then P κ else 0 : ℝ) : EReal) := by
    intro κ
    unfold kweight masked
    rw [e1]
    split
    · rw [← EReal.coe_sub, ← EReal.coe_mul, Ideal.exp2_coe]
      refine congrArg Real.toEReal ?_
      show (2 : ℝ) ^ ((S κ - S κ₀) * (ss * (Real.log 2)⁻¹)) = P κ
      rw [Real.rpow_def_of_pos (by norm_num)]
      refine congrArg Real.exp ?_
      field_simp
    · rw [EReal.bot_sub, EReal.bot_mul_coe_of_pos (by positivity), Ideal.exp2_bot, EReal.coe_zero]
  have w2 : ∀ κ, rweight q (fun κ => (S κ : EReal) * (ss : EReal)) m' κ
      = ((if κ ≤ q then P κ else 0 : ℝ) : EReal) := by
    intro κ
    unfold rweight masked
    rw [e2]
    split
    · show Ideal.exp ((S κ : EReal) * (ss : EReal) - ((S κ₀ * ss : ℝ) : EReal)) = _
      rw [← EReal.coe_mul, ← EReal.coe_sub, Ideal.exp_coe]
      refine congrArg Real.toEReal (congrArg Real.exp ?_)
      ring
    · rw [EReal.bot_sub, Ideal.exp_bot, EReal.coe_zero]
  have s2 : ∀ k, ((V k : ℝ) : EReal) * ((if k ≤ q then P k else 0 : ℝ) : EReal)
      = ((if k ≤ q then V k * P k else 0 : ℝ) : EReal) := by
    intro k
    rw [← EReal.coe_mul]
    refine congrArg Real.toEReal ?_
    split <;> simp
  have hL : 0 < ∑ κ ∈ Finset.range (q + 1), P κ :=
    Finset.sum_pos (fun κ _ => Real.exp_pos _) ⟨0, by simp⟩
  unfold kmean rmean
  simp only [w1, w2, s2]
  rw [sum_masked n q hn P, sum_masked n' q hn' P, sum_masked n q hn (fun k => V k * P k),
    sum_masked n' q hn' (fun k => V k * P k)]
  unfold Ideal.div
  have hne : ((∑ κ ∈ Finset.range (q + 1), P κ : ℝ) : EReal) ≠ 0 := by
    intro h
    exact hL.ne' (EReal.coe_eq_zero.mp h)
  rw [if_neg hne, if_neg hne, mul_assoc]

end Cert.Attn
-- ==== Proof.Tile.lean ====
module

public import proofs.«01_k».proof.Proof.Amax
public import proofs.«01_k».proof.Proof.Softmax
public import Idealize.ShloMosaic.Lib.MatmulPlain
public import Idealize.ShloMosaic.Lib.Pipeline.ReadBack

/-!
# One query tile of the attention, at any of the eight heights

Tile `i` scores its 256 rows against key blocks `0 … i` (the last of them masked), parks the scores in a stack, takes
their maximum, parks the weights in a second stack, and multiplies the value codes by the whole second stack. The
definitions here are written once for every `i`; the values of the stacks come back as they were stored.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-! ### What a tile computes -/

/-- Scores of a key block against the tile's rows. -/
def scoreFull (K Q : FVec Ideal S256x128 .fp8e4m3) : FVec Ideal S256x256 .f32 :=
  matmul (DotDims.transposedRhs 256 128 256) none K Q (constant S256x256 .f32 0#32)

/-- The same on the diagonal block: a key after the row counts for nothing. -/
def scoreDiag (K Q : FVec Ideal S256x128 .fp8e4m3) : FVec Ideal S256x256 .f32 :=
  select (k0_pay3) (scoreFull K Q) (broadcast S256x256 (FloatOps.ofBits .f32 4286578688#32))

/-- The scores of block `j` in tile `i`. -/
def score (i : ℕ) (K : Fin 8 → FVec Ideal S256x128 .fp8e4m3) (Q : FVec Ideal S256x128 .fp8e4m3) (j : Fin 8) :
    FVec Ideal S256x256 .f32 := bif Nat.beq j.val i then scoreDiag (K j) Q else scoreFull (K j) Q

/-- The maximum over blocks `0 … n`, folded to eight rows. -/
def maxChain (X : Fin 8 → FVec Ideal S256x256 .f32) : (n : ℕ) → n < 8 → FVec Ideal S8x256 .f32
  | 0, h => multiReduction .maximumf [0] S8x256 (shapeCast S32x8x256 (X ⟨0, h⟩) (by decide)) 4286578688#32 (by decide) (by decide) (by rfl)
  | n + 1, h => maximumf (maxChain X n (Nat.lt_of_succ_lt h))
      (multiReduction .maximumf [0] S8x256 (shapeCast S32x8x256 (X ⟨n + 1, h⟩) (by decide)) 4286578688#32 (by decide) (by decide) (by rfl))

/-- The sum over blocks `0 … n`, folded to eight rows. -/
def sumChain (X : Fin 8 → FVec Ideal S256x256 .f32) : (n : ℕ) → n < 8 → FVec Ideal S8x256 .f32
  | 0, h => multiReduction .add [0] S8x256 (shapeCast S32x8x256 (X ⟨0, h⟩) (by decide)) 0#32 (by decide) (by decide) (by rfl)
  | n + 1, h => addf (sumChain X n (Nat.lt_of_succ_lt h))
      (multiReduction .add [0] S8x256 (shapeCast S32x8x256 (X ⟨n + 1, h⟩) (by decide)) 0#32 (by decide) (by decide) (by rfl))

/-- The maximum of each column. -/
def tileMax (X : Fin 8 → FVec Ideal S256x256 .f32) (i : ℕ) (hi : i < 8) : FVec Ideal S1x256 .f32 :=
  shapeCast S1x256 (multiReduction .maximumf [0] S256 (maxChain X i hi) 4286578688#32 (by decide) (by decide) (by rfl)) (by decide)

/-- The sum of each column. -/
def tileSum (X : Fin 8 → FVec Ideal S256x256 .f32) (i : ℕ) (hi : i < 8) : FVec Ideal S1x256 .f32 :=
  shapeCast S1x256 (multiReduction .add [0] S256 (sumChain X i hi) 0#32 (by decide) (by decide) (by rfl)) (by decide)

/-- The weights of a block of parked scores. -/
def prob (s : FVec Ideal S1x256x256 .f32) (m : FVec Ideal S1x256 .f32) (c : FVec Ideal S1x1 .f32) : FVec Ideal S256x256 .f32 :=
  exp2 (mulf (subf (shapeCast S256x256 s (by decide)) (broadcastTo S256x256 m (by decide))) (broadcastTo S256x256 c (by decide)))

theorem inb_stack {b j : ℕ} (hb : b < 2) (hj : j < 8) :
    ∀ a, (![b, 256 * j, 0] : Fin 3 → ℕ) a + S1x256x256.size a ≤ S2x2048x256.size a := by
  intro a
  fin_cases a
  · show b + 1 ≤ 2; omega
  · show 256 * j + 256 ≤ 2048; omega
  · exact Nat.le_refl 256

/-- Blocks `0 … n − 1` stored over what a stack held before. -/
def stack {e : EltTy} (b : ℕ) (hb : b < 2) (S : Fin 8 → S1x256x256.Idx → Elt Ideal e) (L : List (View.Piece (Elt Ideal) S2x2048x256 e)) :
    (n : ℕ) → n ≤ 8 → List (View.Piece (Elt Ideal) S2x2048x256 e)
  | 0, _ => L
  | n + 1, h => ⟨Rect.unit ![b, 256 * n, 0] S1x256x256.size (inb_stack hb h), S ⟨n, h⟩⟩ :: stack b hb S L n (Nat.le_of_succ_le h)

/-- Block `j` of a stack, read back. -/
def unstack {e : EltTy} (v : View sig .tc .vmem S2x2048x256 e) (L : List (View.Piece (Elt Ideal) S2x2048x256 e)) (b : ℕ) (hb : b < 2) (j : Fin 8) :
    S1x256x256.Idx → Elt Ideal e :=
  v.readCov L (Rect.unit (s := S2x2048x256) ![b, 256 * j.val, 0] S1x256x256.size (inb_stack hb j.2)).toLoadRect

theorem inb_whole {b i : ℕ} (hb : b < 2) (hi : i < 8) :
    ∀ a, (![b, 0, 0] : Fin 3 → ℕ) a + (⟨3, ![1, 256 * (i + 1), 256]⟩ : Shape).size a ≤ S2x2048x256.size a := by
  intro a
  fin_cases a
  · show b + 1 ≤ 2; omega
  · show 0 + 256 * (i + 1) ≤ 2048; omega
  · exact Nat.le_refl 256

/-- Blocks `0 … i` of a stack, read back as one. -/
def unstackAll {e : EltTy} (v : View sig .tc .vmem S2x2048x256 e) (L : List (View.Piece (Elt Ideal) S2x2048x256 e)) (b : ℕ) (hb : b < 2) (i : ℕ) (hi : i < 8) :
    (⟨3, ![1, 256 * (i + 1), 256]⟩ : Shape).Idx → Elt Ideal e :=
  v.readCov L (Rect.unit (s := S2x2048x256) ![b, 0, 0] (⟨3, ![1, 256 * (i + 1), 256]⟩ : Shape).size (inb_whole hb hi)).toLoadRect

/-- The scores as parked. -/
def parkS (i : ℕ) (K : Fin 8 → FVec Ideal S256x128 .fp8e4m3) (Q : FVec Ideal S256x128 .fp8e4m3) (j : Fin 8) : S1x256x256.Idx → Elt Ideal .f32 :=
  shapeCast S1x256x256 (score i K Q j) (by decide)

/-- The weights of block `j`, from the parked scores. -/
def weights (v : View sig .tc .vmem S2x2048x256 .f32) (L : List (View.Piece (Elt Ideal) S2x2048x256 .f32)) (b : ℕ) (hb : b < 2) (i : ℕ) (hi : i < 8)
    (K : Fin 8 → FVec Ideal S256x128 .fp8e4m3) (Q : FVec Ideal S256x128 .fp8e4m3) (c : FVec Ideal S1x1 .f32) (j : Fin 8) : FVec Ideal S256x256 .f32 :=
  prob (unstack v (stack b hb (parkS i K Q) L (i + 1) hi) b hb j) (tileMax (score i K Q) i hi) c

/-- The weights as parked. -/
def parkP (P : Fin 8 → FVec Ideal S256x256 .f32) (j : Fin 8) : S1x256x256.Idx → Elt Ideal .fp8e4m3 :=
  shapeCast S1x256x256 (truncf .fp8e4m3 (P j) (by decide)) (by decide)

/-- The product with the value codes, divided by the weights' sum and transposed. -/
def finish {n : ℕ} (VT : FVec Ideal ⟨2, ![128, n]⟩ .fp8e4m3) (P : FVec Ideal ⟨2, ![n, 256]⟩ .fp8e4m3) (l : FVec Ideal S1x256 .f32)
    (vsc : FVec Ideal S1x1 .f32) : FVec Ideal S1x256x128 .bf16 :=
  shapeCast S1x256x128 (transpose S256x128 [1, 0] (truncf .bf16 (mulf (matmul (DotDims.plain 128 n 256) none VT P (constant S128x256 .f32 0#32))
    (broadcastTo S128x256 (divf (broadcastTo S1x256 vsc (by decide)) l) (by decide))) (by decide)) (by decide)) (by decide)

theorem casts_whole (n : ℕ) : (⟨3, ![1, n, 256]⟩ : Shape).ShapeCasts ⟨2, ![n, 256]⟩ := by
  simp [Shape.ShapeCasts, Shape.numel, Fin.prod_univ_succ]

/-- A stack read back as one, as a matrix. -/
def flat {n : ℕ} (X : (⟨3, ![1, n, 256]⟩ : Shape).Idx → Elt Ideal .fp8e4m3) : FVec Ideal ⟨2, ![n, 256]⟩ .fp8e4m3 :=
  shapeCast ⟨2, ![n, 256]⟩ X (casts_whole n)

/-- Tile `i`. -/
def tile (v13 : View sig .tc .vmem S2x2048x256 .f32) (v14 : View sig .tc .vmem S2x2048x256 .fp8e4m3)
    (L13 : List (View.Piece (Elt Ideal) S2x2048x256 .f32)) (L14 : List (View.Piece (Elt Ideal) S2x2048x256 .fp8e4m3))
    (b : ℕ) (hb : b < 2) (i : ℕ) (hi : i < 8)
    (K : Fin 8 → FVec Ideal S256x128 .fp8e4m3) (Q : FVec Ideal S256x128 .fp8e4m3) (VT : FVec Ideal ⟨2, ![128, 256 * (i + 1)]⟩ .fp8e4m3)
    (c vsc : FVec Ideal S1x1 .f32) : FVec Ideal S1x256x128 .bf16 :=
  finish (n := 256 * (i + 1)) VT
    (flat (unstackAll (e := .fp8e4m3) v14 (stack b hb (parkP (weights v13 L13 b hb i hi K Q c)) L14 (i + 1) hi) b hb i hi))
    (tileSum (weights v13 L13 b hb i hi K Q c) i hi) vsc

end Cert.KernelIdeal.Gen
-- ==== Proof.TileVal.lean ====
module

public import proofs.«01_k».proof.Proof.Tile

/-!
# The value of a tile

Read entry by entry, tile `i` is the weighted mean of the value codes over keys `0 … 256 (i + 1) − 1`, the keys after the
row counting for nothing.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-! ### The stacks -/

theorem canon_stack {e : EltTy} (b : ℕ) (hb : b < 2) (S : Fin 8 → S1x256x256.Idx → Elt Ideal e)
    (L : List (View.Piece (Elt Ideal) S2x2048x256 e)) (j : Fin 8) (x r : Fin 256) (y : S2x2048x256.Idx)
    (h0 : (y 0).val = b) (h1 : (y 1).val = 256 * j.val + x.val) (h2 : (y 2).val = r.val) :
    ∀ (n : ℕ) (hn : n ≤ 8), j.val < n → View.canon (stack b hb S L n hn) y = S j (ix3 0 x r) := by
  intro n
  induction n with
  | zero => intro _ h; omega
  | succ n ih =>
    intro hn hj
    show View.canon (_ :: stack b hb S L n (Nat.le_of_succ_le hn)) y = _
    by_cases hjn : j.val = n
    · have ey : y = (Rect.unit (s := S2x2048x256) ![b, 256 * n, 0] S1x256x256.size (inb_stack hb hn)).emb (ix3 0 x r) := by
        funext a; apply Fin.ext; fin_cases a
        · show (y 0).val = b + 1 * 0; omega
        · show (y 1).val = 256 * n + 1 * x.val; omega
        · show (y 2).val = 0 + 1 * r.val; omega
      have ej : (⟨n, hn⟩ : Fin 8) = j := Fin.ext hjn.symm
      have hc := View.canon_cons_emb (Rect.unit (s := S2x2048x256) ![b, 256 * n, 0] S1x256x256.size (inb_stack hb hn)) (S ⟨n, hn⟩)
        (stack b hb S L n (Nat.le_of_succ_le hn)) (ix3 0 x r)
      rw [← ey] at hc
      exact hc.trans (congrFun (congrArg S ej) _)
    · refine (View.canon_cons_of_not_mem _ _ fun hm => ?_).trans (ih _ (by omega))
      rw [Rect.mem_set_unit] at hm
      have h' : 256 * n ≤ (y 1).val := (hm 1).1
      have := x.isLt
      omega

theorem unstack_stack {e : EltTy} (v : View sig .tc .vmem S2x2048x256 e) (b : ℕ) (hb : b < 2) (S : Fin 8 → S1x256x256.Idx → Elt Ideal e)
    (L : List (View.Piece (Elt Ideal) S2x2048x256 e)) (n : ℕ) (hn : n ≤ 8) (j : Fin 8) (hj : j.val < n) (x r : Fin 256) :
    unstack v (stack b hb S L n hn) b hb j (ix3 0 x r) = S j (ix3 0 x r) := by
  unfold unstack
  rw [View.readCov_eq_canon']
  refine canon_stack b hb S L j x r _ ?_ ?_ ?_ n hn hj
  · show b + 1 * 0 = b; omega
  · show 256 * j.val + 1 * x.val = _; omega
  · show 0 + 1 * r.val = _; omega

theorem unstackAll_stack {e : EltTy} (v : View sig .tc .vmem S2x2048x256 e) (b : ℕ) (hb : b < 2) (S : Fin 8 → S1x256x256.Idx → Elt Ideal e)
    (L : List (View.Piece (Elt Ideal) S2x2048x256 e)) (i : ℕ) (hi : i < 8) (j : Fin 8) (hj : j.val < i + 1) (x r : Fin 256) (κ : Fin (256 * (i + 1)))
    (hκ : κ.val = 256 * j.val + x.val) :
    unstackAll v (stack b hb S L (i + 1) hi) b hb i hi (ix3 0 κ r) = S j (ix3 0 x r) := by
  unfold unstackAll
  rw [View.readCov_eq_canon']
  refine canon_stack b hb S L j x r _ ?_ ?_ ?_ (i + 1) hi hj
  · show b + 1 * 0 = b; omega
  · show 0 + 1 * κ.val = _; omega
  · show 0 + 1 * r.val = _; omega

/-! ### The scores -/

theorem scoreFull_apply (K Q : FVec Ideal S256x128 .fp8e4m3) (x r : Fin 256) :
    scoreFull K Q (ix2 x r) = ∑ d : Fin 128, K (ix2 x d) * Q (ix2 r d) := by
  unfold scoreFull
  refine (Ideal.matmul_transposedRhs_apply none K Q _ x r).trans ?_
  have : (constant S256x256 .f32 0#32 : FVec Ideal S256x256 .f32) (ix2 x r) = 0 := by
    show Ideal.ofBits .f32 0#32 = 0
    simp [Ideal.ofBits, Ideal.ieee]
  exact (congrArg (· + _) this).trans (zero_add _)

theorem le_of_iota (a b : ℕ) (ha : a < 2048) (hb : b < 2048) : (BitVec.ofNat 32 a).sle (BitVec.ofNat 32 b) = decide (a ≤ b) := by
  rw [BitVec.sle_eq_decide]
  congr 1
  have h : ∀ n, n < 2048 → (BitVec.ofNat 32 n).toInt = n := by
    intro n hn
    rw [BitVec.toInt_eq_toNat_of_lt] <;> simp <;> omega
  rw [h a ha, h b hb]
  simp

theorem visible_apply (x r : Fin 256) : k0_pay3 (ix2 x r) = if x.val ≤ r.val then 1#1 else 0#1 := by
  unfold k0_pay3
  have e : ∀ n : Fin 256, 0 * 256 + n.val = n.val := fun n => by omega
  show BitVec.ofBool ((BitVec.ofNat 32 (0 * 256 + x.val)).sle (BitVec.ofNat 32 (0 * 256 + r.val))) = _
  rw [e, e, le_of_iota _ _ (by omega) (by omega)]
  by_cases h : x.val ≤ r.val <;> simp [h]

theorem scoreDiag_apply (K Q : FVec Ideal S256x128 .fp8e4m3) (x r : Fin 256) :
    scoreDiag K Q (ix2 x r) = if x.val ≤ r.val then ∑ d : Fin 128, K (ix2 x d) * Q (ix2 r d) else ⊥ := by
  unfold scoreDiag
  show (if k0_pay3 (ix2 x r) = 1#1 then scoreFull K Q (ix2 x r) else Ideal.ofBits .f32 4286578688#32) = _
  rw [visible_apply, scoreFull_apply, bot_f32]
  split <;> simp

/-! ### Maxima and sums over blocks -/

theorem red32_max_le (V : FVec Ideal S32x8x256 .f32) (h : S32x8x256.Reduces [0] S8x256) (hφ : FKind.Formats .f32)
    (hacc : (4286578688#32 : BitVec 32) = FKind.maximumf.neutral .f32 hφ) (a : Fin 8) (r : Fin 256) (u : EReal) :
    multiReduction .maximumf [0] S8x256 V 4286578688#32 h hφ hacc (ix2 a r) ≤ u ↔ ∀ t : Fin 32, V (ix3 t a r) ≤ u := by
  rw [Ideal.multiReduction_maximumf_single, Ideal.ofBits_def, bot_f32, fold_max_le]
  have e : ∀ t : Fin 32, h.lift (ix2 a r) t = ix3 t a r := fun t => by
    funext a; apply Fin.ext; fin_cases a <;> rfl
  exact ⟨fun h' t => by rw [← e t]; exact h' t (Finset.mem_univ _),
    fun h' t _ => by rw [Function.comp_apply]; exact (congrArg (· ≤ u) (congrArg V (e t))).mpr (h' t)⟩

theorem red8_max_le (V : FVec Ideal S8x256 .f32) (h : S8x256.Reduces [0] S256) (hφ : FKind.Formats .f32)
    (hacc : (4286578688#32 : BitVec 32) = FKind.maximumf.neutral .f32 hφ) (r : Fin 256) (u : EReal) :
    multiReduction .maximumf [0] S256 V 4286578688#32 h hφ hacc (ix1 r) ≤ u ↔ ∀ a : Fin 8, V (ix2 a r) ≤ u := by
  rw [Ideal.multiReduction_maximumf_single, Ideal.ofBits_def, bot_f32, fold_max_le]
  have e : ∀ a : Fin 8, h.lift (ix1 r) a = ix2 a r := fun t => by
    funext a; apply Fin.ext; fin_cases a <;> rfl
  exact ⟨fun h' t => by rw [← e t]; exact h' t (Finset.mem_univ _),
    fun h' t _ => by rw [Function.comp_apply]; exact (congrArg (· ≤ u) (congrArg V (e t))).mpr (h' t)⟩

theorem zero_f32 : Ideal.ofBits .f32 0#32 = 0 := by simp [Ideal.ofBits, Ideal.ieee]

theorem red32_add (V : FVec Ideal S32x8x256 .f32) (h : S32x8x256.Reduces [0] S8x256) (hφ : FKind.Formats .f32)
    (hacc : (0#32 : BitVec 32) = FKind.add.neutral .f32 hφ) (a : Fin 8) (r : Fin 256) :
    multiReduction .add [0] S8x256 V 0#32 h hφ hacc (ix2 a r) = ∑ t : Fin 32, V (ix3 t a r) := by
  have e : ∀ t : Fin 32, h.lift (ix2 a r) t = ix3 t a r := fun t => by
    funext a; apply Fin.ext; fin_cases a <;> rfl
  exact (Ideal.multiReduction_add_single V _ h hφ hacc (ix2 a r)).trans (Finset.sum_congr rfl fun t _ => congrArg V (e t))

theorem red8_add (V : FVec Ideal S8x256 .f32) (h : S8x256.Reduces [0] S256) (hφ : FKind.Formats .f32)
    (hacc : (0#32 : BitVec 32) = FKind.add.neutral .f32 hφ) (r : Fin 256) :
    multiReduction .add [0] S256 V 0#32 h hφ hacc (ix1 r) = ∑ a : Fin 8, V (ix2 a r) := by
  have e : ∀ a : Fin 8, h.lift (ix1 r) a = ix2 a r := fun t => by
    funext a; apply Fin.ext; fin_cases a <;> rfl
  exact (Ideal.multiReduction_add_single V _ h hφ hacc (ix1 r)).trans (Finset.sum_congr rfl fun t _ => congrArg V (e t))

theorem castRows_apply (W : FVec Ideal S256x256 .f32) (h : S256x256.ShapeCasts S32x8x256) (t : Fin 32) (a : Fin 8) (r : Fin 256) :
    shapeCast S32x8x256 W h (ix3 t a r) = W (ix2 (⟨8 * t.val + a.val, by omega⟩ : Fin 256) r) := by
  pointwise
  congr 2
  apply Fin.ext
  simp
  try omega

theorem maxChain_le (X : Fin 8 → FVec Ideal S256x256 .f32) (a : Fin 8) (r : Fin 256) (u : EReal) : ∀ (n : ℕ) (hn : n < 8),
    maxChain X n hn (ix2 a r) ≤ u ↔ ∀ (j : Fin 8), j.val ≤ n → ∀ t : Fin 32, X j (ix2 (⟨8 * t.val + a.val, by omega⟩ : Fin 256) r) ≤ u := by
  intro n
  induction n with
  | zero =>
    intro hn
    unfold maxChain
    rw [red32_max_le]
    simp only [castRows_apply]
    exact ⟨fun h j hj t => by obtain rfl : j = ⟨0, hn⟩ := Fin.ext (Nat.le_zero.mp hj); exact h t, fun h t => h _ (Nat.le_refl _) t⟩
  | succ n ih =>
    intro hn
    unfold maxChain
    show max (maxChain X n (Nat.lt_of_succ_lt hn) (ix2 a r)) (multiReduction .maximumf [0] S8x256 _ _ _ _ _ (ix2 a r)) ≤ u ↔ _
    rw [max_le_iff, ih, red32_max_le]
    simp only [castRows_apply]
    constructor
    · rintro ⟨h1, h2⟩ j hj t
      by_cases hj' : j.val ≤ n
      · exact h1 j hj' t
      · obtain rfl : j = ⟨n + 1, hn⟩ := Fin.ext (by show j.val = n + 1; omega)
        exact h2 t
    · exact fun h => ⟨fun j hj t => h j (by omega) t, fun t => h _ (Nat.le_refl _) t⟩

theorem sumChain_apply (X : Fin 8 → FVec Ideal S256x256 .f32) (a : Fin 8) (r : Fin 256) : ∀ (n : ℕ) (hn : n < 8),
    sumChain X n hn (ix2 a r) = ∑ j : Fin (n + 1), ∑ t : Fin 32, X ⟨j.val, by omega⟩ (ix2 (⟨8 * t.val + a.val, by omega⟩ : Fin 256) r) := by
  intro n
  induction n with
  | zero =>
    intro hn
    unfold sumChain
    rw [red32_add, Fin.sum_univ_one]
    simp only [castRows_apply]
    rfl
  | succ n ih =>
    intro hn
    unfold sumChain
    show sumChain X n (Nat.lt_of_succ_lt hn) (ix2 a r) + multiReduction .add [0] S8x256 _ _ _ _ _ (ix2 a r) = _
    rw [ih, red32_add, Fin.sum_univ_castSucc (n := n + 1)]
    simp only [castRows_apply]
    rfl

theorem castRow_apply (W : FVec Ideal S256 .f32) (h : S256.ShapeCasts S1x256) (r : Fin 256) : shapeCast S1x256 W h (ix2 0 r) = W (ix1 r) := by
  pointwise

theorem tileMax_le (X : Fin 8 → FVec Ideal S256x256 .f32) (i : ℕ) (hi : i < 8) (r : Fin 256) (u : EReal) :
    tileMax X i hi (ix2 0 r) ≤ u ↔ ∀ (j : Fin 8), j.val ≤ i → ∀ x : Fin 256, X j (ix2 x r) ≤ u := by
  unfold tileMax
  rw [castRow_apply, red8_max_le]
  simp only [maxChain_le]
  constructor
  · intro h j hj x
    have := h ⟨x.val % 8, Nat.mod_lt _ (by decide)⟩ j hj ⟨x.val / 8, by omega⟩
    have e : (⟨8 * (x.val / 8) + x.val % 8, by omega⟩ : Fin 256) = x := Fin.ext (Nat.div_add_mod _ _)
    simpa only [e] using this
  · exact fun h a j hj t => h j hj _

/-- A sum over `a b` positions, taken `a` at a time. -/
theorem sum_blocks (a b : ℕ) (f : ℕ → EReal) : ∑ j : Fin b, ∑ x : Fin a, f (a * j.val + x.val) = ∑ κ : Fin (a * b), f κ.val := by
  rw [Fin.sum_univ_eq_sum_range f (a * b)]
  simp only [fun j : Fin b => Fin.sum_univ_eq_sum_range (fun x => f (a * j.val + x)) a]
  rw [Fin.sum_univ_eq_sum_range (fun j => ∑ x ∈ Finset.range a, f (a * j + x)) b]
  induction b with
  | zero => simp
  | succ b ih => rw [Finset.sum_range_succ, ih, Nat.mul_succ, Finset.sum_range_add]

theorem tileSum_apply (X : Fin 8 → FVec Ideal S256x256 .f32) (i : ℕ) (hi : i < 8) (r : Fin 256) :
    tileSum X i hi (ix2 0 r) = ∑ j : Fin (i + 1), ∑ x : Fin 256, X ⟨j.val, by omega⟩ (ix2 x r) := by
  unfold tileSum
  rw [castRow_apply, red8_add]
  simp only [sumChain_apply]
  rw [Finset.sum_comm]
  refine Finset.sum_congr rfl fun j _ => ?_
  rw [Finset.sum_comm]
  have := sum_blocks 8 32 fun n => if h : n < 256 then X ⟨j.val, by omega⟩ (ix2 ⟨n, h⟩ r) else 0
  refine (Finset.sum_congr rfl fun t _ => Finset.sum_congr rfl fun a _ => ?_).trans (this.trans (Finset.sum_congr rfl fun x _ => ?_))
  · rw [dif_pos]
  · rw [dif_pos x.isLt]

/-! ### The weights and the last product -/

theorem prob_apply (s : FVec Ideal S1x256x256 .f32) (m : FVec Ideal S1x256 .f32) (c : FVec Ideal S1x1 .f32) (x r : Fin 256) :
    prob s m c (ix2 x r) = Ideal.exp2 ((s (ix3 0 x r) - m (ix2 0 r)) * c (ix2 0 0)) := by
  unfold prob
  pointwise
  rfl

theorem park_apply {φ : FTy} (W : FVec Ideal S256x256 φ) (h : S256x256.ShapeCasts S1x256x256) (x r : Fin 256) :
    shapeCast S1x256x256 W h (ix3 0 x r) = W (ix2 x r) := by
  pointwise

theorem flat_apply {n : ℕ} (X : (⟨3, ![1, n, 256]⟩ : Shape).Idx → Elt Ideal .fp8e4m3) (κ : Fin n) (r : Fin 256) :
    flat X (ix2 κ r) = X (ix3 0 κ r) := by
  unfold flat
  refine congrArg X (Shape.reshapeEquiv_eq_of_rowMajor _ ?_)
  rw [Shape.rowMajor_val_three, Shape.rowMajor_val_two]
  show ((0 : ℕ) * n + κ.val) * 256 + r.val = κ.val * 256 + r.val
  omega

theorem finish_apply {n : ℕ} (VT : FVec Ideal ⟨2, ![128, n]⟩ .fp8e4m3) (P : FVec Ideal ⟨2, ![n, 256]⟩ .fp8e4m3) (l : FVec Ideal S1x256 .f32)
    (vsc : FVec Ideal S1x1 .f32) (r : Fin 256) (d : Fin 128) :
    finish VT P l vsc (ix3 0 r d) = (∑ κ : Fin n, VT (ix2 d κ) * P (ix2 κ r)) * Ideal.div (vsc (ix2 0 0)) (l (ix2 0 r)) := by
  unfold finish
  have : matmul (DotDims.plain 128 n 256) none VT P (constant S128x256 .f32 0#32) (ix2 d r) = ∑ κ : Fin n, VT (ix2 d κ) * P (ix2 κ r) := by
    refine (Ideal.matmul_plain_apply none VT P _ d r).trans ?_
    have : (constant S128x256 .f32 0#32 : FVec Ideal S128x256 .f32) (ix2 d r) = 0 := zero_f32
    exact (congrArg (· + _) this).trans (zero_add _)
  rw [← this]
  generalize matmul (DotDims.plain 128 n 256) none VT P (constant S128x256 .f32 0#32) = W
  pointwise

/-! ### The tile -/

theorem score_apply (i : ℕ) (K : Fin 8 → FVec Ideal S256x128 .fp8e4m3) (Q : FVec Ideal S256x128 .fp8e4m3) (j : Fin 8) (hj : j.val ≤ i) (x r : Fin 256) :
    score i K Q j (ix2 x r) = if 256 * j.val + x.val ≤ 256 * i + r.val then ∑ d : Fin 128, K j (ix2 x d) * Q (ix2 r d) else ⊥ := by
  unfold score
  by_cases h : j.val = i
  · rw [show Nat.beq j.val i = true from by rw [Nat.beq_eq]; exact h, cond_true, scoreDiag_apply, h]
    simp only [Nat.add_le_add_iff_left]
  · rw [show Nat.beq j.val i = false from by rw [← Bool.not_eq_true, Nat.beq_eq]; exact h, cond_false, scoreFull_apply, if_pos (by omega)]

/-- Entry `(r, d)` of tile `i`, from what the key blocks, the rows and the value codes hold. -/
theorem tile_apply (v13 : View sig .tc .vmem S2x2048x256 .f32) (v14 : View sig .tc .vmem S2x2048x256 .fp8e4m3)
    (L13 : List (View.Piece (Elt Ideal) S2x2048x256 .f32)) (L14 : List (View.Piece (Elt Ideal) S2x2048x256 .fp8e4m3))
    (b : ℕ) (hb : b < 2) (i : ℕ) (hi : i < 8)
    (K : Fin 8 → FVec Ideal S256x128 .fp8e4m3) (Q : FVec Ideal S256x128 .fp8e4m3) (VT : FVec Ideal ⟨2, ![128, 256 * (i + 1)]⟩ .fp8e4m3)
    (c vsc : FVec Ideal S1x1 .f32) (r : Fin 256) (d : Fin 128) (S V : ℕ → EReal)
    (hS : ∀ (j : Fin 8) (x : Fin 256), S (256 * j.val + x.val) = ∑ e : Fin 128, K j (ix2 x e) * Q (ix2 r e))
    (hV : ∀ κ : Fin (256 * (i + 1)), VT (ix2 d κ) = V κ.val) :
    ∃ m, IsMax (256 * (i + 1)) (256 * i + r.val) S m ∧
      tile v13 v14 L13 L14 b hb i hi K Q VT c vsc (ix3 0 r d)
        = kmean (256 * (i + 1)) (256 * i + r.val) S V m (c (ix2 0 0)) (vsc (ix2 0 0)) := by
  have hsc : ∀ (j : Fin 8), j.val ≤ i → ∀ x : Fin 256, score i K Q j (ix2 x r) = masked (256 * i + r.val) S (256 * j.val + x.val) := by
    intro j hj x
    rw [score_apply i K Q j hj x r, ← hS]
    rfl
  refine ⟨tileMax (score i K Q) i hi (ix2 0 r), ?_, ?_⟩
  · intro u
    rw [tileMax_le]
    constructor
    · intro h κ hκ
      have h1 := h ⟨κ / 256, by omega⟩ (by show κ / 256 ≤ i; omega) ⟨κ % 256, Nat.mod_lt _ (by decide)⟩
      rw [hsc _ (by show κ / 256 ≤ i; omega)] at h1
      have e : 256 * (κ / 256) + κ % 256 = κ := Nat.div_add_mod _ _
      simpa only [e] using h1
    · intro h j hj x
      rw [hsc j hj]
      exact h _ (by have := x.isLt; omega)
  · have hw : ∀ (j : Fin 8), j.val ≤ i → ∀ x : Fin 256, weights v13 L13 b hb i hi K Q c j (ix2 x r)
        = kweight (256 * i + r.val) S (tileMax (score i K Q) i hi (ix2 0 r)) (c (ix2 0 0)) (256 * j.val + x.val) := by
      intro j hj x
      unfold weights
      rw [prob_apply, unstack_stack v13 b hb _ L13 (i + 1) hi j (by omega) x r]
      unfold parkS
      rw [park_apply, hsc j hj]
      rfl
    unfold tile
    rw [finish_apply]
    unfold kmean
    refine congrArg₂ (· * ·) (Finset.sum_congr rfl fun κ _ => ?_) (congrArg (Ideal.div _) ?_)
    · have hκ := κ.isLt
      rw [hV, flat_apply, unstackAll_stack v14 b hb _ L14 i hi ⟨κ.val / 256, by omega⟩ (by show κ.val / 256 < i + 1; omega)
        ⟨κ.val % 256, Nat.mod_lt _ (by decide)⟩ r κ (Nat.div_add_mod _ _).symm]
      unfold parkP
      rw [park_apply]
      show _ * weights v13 L13 b hb i hi K Q c _ _ = _
      rw [hw _ (by show κ.val / 256 ≤ i; omega)]
      have e : 256 * (κ.val / 256) + κ.val % 256 = κ.val := Nat.div_add_mod _ _
      simp only [e]
    · rw [tileSum_apply, ← sum_blocks 256 (i + 1)]
      exact Finset.sum_congr rfl fun j _ => Finset.sum_congr rfl fun x _ => hw ⟨j.val, by omega⟩ (Nat.lt_succ_iff.mp j.isLt) x

end Cert.KernelIdeal.Gen
-- ==== Proof.RefAttn.lean ====
module

public import proofs.«01_k».proof.Proof.Tail
public import proofs.«01_k».proof.Proof.TileVal
public import Idealize.ShloMosaic.Lib.ValueIdxCore
public import proofs.«01_k».proof.Proof.Gen.ReferenceIdeal.Run

/-!
# The reference's attention, entry by entry

The reference scores every key, masks the keys after the row, and divides the weighted sum of the value codes by the
weights' sum.
-/

@[expose] public section

set_option maxRecDepth 16384

noncomputable section

namespace Cert.Attn

open Idealize.ShloMosaic Idealize.ShloMosaic.TcCoe Idealize.ShloMosaic.Tactic
open Idealize.SL Idealize.SL.Sem
open Idealize.ShloMosaic.ValueIdx (contrEquiv1 contrEquiv1_symm_val)
open Cert.KernelIdeal.Gen (headMax headMax_le fold_max_le bot_f32 code)

/-- Batch, key head, row, query head of the group, key. -/
abbrev T5 : Shape := ⟨5, ![8, 2, 2048, 8, 2048]⟩
abbrev T4s : Shape := ⟨4, ![8, 2, 2048, 8]⟩
abbrev T5s : Shape := ⟨5, ![8, 2, 2048, 8, 1]⟩
abbrev T5q : Shape := ⟨5, ![8, 2048, 2, 8, 128]⟩
abbrev T5v : Shape := ⟨5, ![8, 2, 128, 2048, 8]⟩
abbrev T3g : Shape := ⟨3, ![8, 2, 8]⟩

/-- The two products. -/
abbrev dotQK := Cert.ReferenceIdeal.dot_S8x2048x2x8x128_S8x2048x2x128_S8x2x2048x8x2048_4_3_13_1_02_02
abbrev dotVP := Cert.ReferenceIdeal.dot_S8x2048x2x128_S8x2x2048x8x2048_S8x2x128x2048x8_1_4_3_23_02_01

/-- Masking. -/
def rMask (X : FVec Ideal T5 .f32) : FVec Ideal T5 .f32 :=
  select (cmpi .sle (iotaInDim T5 32 4) (iotaInDim T5 32 2)) X (broadcastInDim T5 ![] (by decide) (constant T0 .f32 0xFF800000#32))

/-- The factor of the scores. -/
def rFactor (qs : FVec Ideal (T2 16) .f32) (ks : FVec Ideal (T2 2) .f32) : FVec Ideal T3g .f32 :=
  mulf (mulf (shapeCast T3g qs (by decide)) (broadcastInDim T3g ![0, 1, 2] (by decide) (broadcastInDim ⟨3, ![8, 2, 1]⟩ ![0, 1] (by decide) ks)))
    (broadcastInDim T3g ![] (by decide) (constant T0 .f32 0x3DB504F3#32))

/-- The masked scores. -/
def rScore (Q : FVec Ideal (T4 16) .f32) (K : FVec Ideal (T4 2) .f32) (qs : FVec Ideal (T2 16) .f32) (ks : FVec Ideal (T2 2) .f32) : FVec Ideal T5 .f32 :=
  rMask (mulf (Host.dotGeneral dotQK none (shapeCast T5q Q (by decide)) K)
    (broadcastInDim T5 ![0, 1, 2, 3, 4] (by decide) (broadcastInDim ⟨5, ![8, 2, 1, 8, 1]⟩ ![0, 1, 3] (by decide) (rFactor qs ks))))

/-- Their maximum. -/
def rMax (S : FVec Ideal T5 .f32) : FVec Ideal T4s .f32 :=
  Host.reduce FloatOps.maximumf S (constant T0 .f32 0xFF800000#32) (show T5.ReducesTo [4] T4s by decide) (by decide)

/-- The weights. -/
def rProb (S : FVec Ideal T5 .f32) : FVec Ideal T5 .f32 :=
  Host.exp (subf S (broadcastInDim T5 ![0, 1, 2, 3, 4] (by decide) (broadcastInDim T5s ![0, 1, 2, 3] (by decide) (rMax S))))

/-- Their sum. -/
def rSum (P : FVec Ideal T5 .f32) : FVec Ideal T4s .f32 :=
  Host.reduceAdd P (constant T0 .f32 0x00000000#32) (show T5.ReducesTo [4] T4s by decide) (by decide)

/-- The output. -/
def rOut (V : FVec Ideal (T4 2) .f32) (P : FVec Ideal T5 .f32) (vs : FVec Ideal (T2 2) .f32) : FVec Ideal ⟨3, ![8, 2048, 2048]⟩ .bf16 :=
  shapeCast ⟨3, ![8, 2048, 2048]⟩ (truncf .bf16 (Host.divf
    (mulf (transpose T5q [0, 3, 1, 4, 2] (Host.dotGeneral dotVP none V P) (by decide))
      (broadcastInDim T5q ![0, 1, 2, 3, 4] (by decide) (broadcastInDim ⟨5, ![8, 1, 2, 1, 1]⟩ ![0, 2] (by decide) vs)))
    (broadcastInDim T5q ![0, 1, 2, 3, 4] (by decide) (transpose ⟨5, ![8, 2048, 2, 8, 1]⟩ [0, 2, 1, 3, 4]
      (broadcastInDim T5s ![0, 1, 2, 3] (by decide) (rSum P)) (by decide)))) (by decide)) (by decide)

/-! ### At an index -/

theorem dotQK_apply (A : FVec Ideal T5q .f32) (B : FVec Ideal (T4 2) .f32) (b : Fin 8) (h : Fin 2) (s : Fin 2048) (g : Fin 8) (κ : Fin 2048) :
    Host.dotGeneral dotQK none A B (ix5 b h s g κ) = ∑ e : Fin 128, A (ix5 b s h g e) * B (ix4 b κ h e) := by
  show FloatOps.dotGeneral dotQK none _ A B (ix5 b h s g κ) = _
  rw [Ideal.dotGeneral_apply, ← Equiv.sum_comp (contrEquiv1 dotQK 128 rfl rfl).symm]
  refine Finset.sum_congr rfl fun e _ => ?_
  have c3 := contrEquiv1_symm_val dotQK 128 rfl rfl e
  have l3 : dotQK.lhsIdx (ix5 b h s g κ) ((contrEquiv1 dotQK 128 rfl rfl).symm e) = ix5 b s h g e := by
    funext ax; apply Fin.ext
    match ax with
    | ⟨0, _⟩ => simp [DotDims.lhsIdx, dotQK, Cert.ReferenceIdeal.dot_S8x2048x2x8x128_S8x2048x2x128_S8x2x2048x8x2048_4_3_13_1_02_02]; rfl
    | ⟨1, _⟩ => simp [DotDims.lhsIdx, dotQK, Cert.ReferenceIdeal.dot_S8x2048x2x8x128_S8x2048x2x128_S8x2x2048x8x2048_4_3_13_1_02_02]; rfl
    | ⟨2, _⟩ => simp [DotDims.lhsIdx, dotQK, Cert.ReferenceIdeal.dot_S8x2048x2x8x128_S8x2048x2x128_S8x2x2048x8x2048_4_3_13_1_02_02]; rfl
    | ⟨3, _⟩ => simp [DotDims.lhsIdx, dotQK, Cert.ReferenceIdeal.dot_S8x2048x2x8x128_S8x2048x2x128_S8x2x2048x8x2048_4_3_13_1_02_02]; rfl
    | ⟨4, _⟩ => simp [DotDims.lhsIdx, dotQK, Cert.ReferenceIdeal.dot_S8x2048x2x8x128_S8x2048x2x128_S8x2x2048x8x2048_4_3_13_1_02_02]; exact c3
  have r3 : dotQK.rhsIdx (ix5 b h s g κ) ((contrEquiv1 dotQK 128 rfl rfl).symm e) = ix4 b κ h e := by
    funext ax; apply Fin.ext
    match ax with
    | ⟨0, _⟩ => simp [DotDims.rhsIdx, dotQK, Cert.ReferenceIdeal.dot_S8x2048x2x8x128_S8x2048x2x128_S8x2x2048x8x2048_4_3_13_1_02_02]; rfl
    | ⟨1, _⟩ => simp [DotDims.rhsIdx, dotQK, Cert.ReferenceIdeal.dot_S8x2048x2x8x128_S8x2048x2x128_S8x2x2048x8x2048_4_3_13_1_02_02]; rfl
    | ⟨2, _⟩ => simp [DotDims.rhsIdx, dotQK, Cert.ReferenceIdeal.dot_S8x2048x2x8x128_S8x2048x2x128_S8x2x2048x8x2048_4_3_13_1_02_02]; rfl
    | ⟨3, _⟩ => simp [DotDims.rhsIdx, dotQK, Cert.ReferenceIdeal.dot_S8x2048x2x8x128_S8x2048x2x128_S8x2x2048x8x2048_4_3_13_1_02_02]; exact c3
  rw [l3, r3]

theorem dotVP_apply (A : FVec Ideal (T4 2) .f32) (B : FVec Ideal T5 .f32) (b : Fin 8) (h : Fin 2) (d : Fin 128) (s : Fin 2048) (g : Fin 8) :
    Host.dotGeneral dotVP none A B (ix5 b h d s g) = ∑ κ : Fin 2048, A (ix4 b κ h d) * B (ix5 b h s g κ) := by
  show FloatOps.dotGeneral dotVP none _ A B (ix5 b h d s g) = _
  rw [Ideal.dotGeneral_apply, ← Equiv.sum_comp (contrEquiv1 dotVP 2048 rfl rfl).symm]
  refine Finset.sum_congr rfl fun e _ => ?_
  have c3 := contrEquiv1_symm_val dotVP 2048 rfl rfl e
  have l3 : dotVP.lhsIdx (ix5 b h d s g) ((contrEquiv1 dotVP 2048 rfl rfl).symm e) = ix4 b e h d := by
    funext ax; apply Fin.ext
    match ax with
    | ⟨0, _⟩ => simp [DotDims.lhsIdx, dotVP, Cert.ReferenceIdeal.dot_S8x2048x2x128_S8x2x2048x8x2048_S8x2x128x2048x8_1_4_3_23_02_01]; rfl
    | ⟨1, _⟩ => simp [DotDims.lhsIdx, dotVP, Cert.ReferenceIdeal.dot_S8x2048x2x128_S8x2x2048x8x2048_S8x2x128x2048x8_1_4_3_23_02_01]; exact c3
    | ⟨2, _⟩ => simp [DotDims.lhsIdx, dotVP, Cert.ReferenceIdeal.dot_S8x2048x2x128_S8x2x2048x8x2048_S8x2x128x2048x8_1_4_3_23_02_01]; rfl
    | ⟨3, _⟩ => simp [DotDims.lhsIdx, dotVP, Cert.ReferenceIdeal.dot_S8x2048x2x128_S8x2x2048x8x2048_S8x2x128x2048x8_1_4_3_23_02_01]; rfl
  have r3 : dotVP.rhsIdx (ix5 b h d s g) ((contrEquiv1 dotVP 2048 rfl rfl).symm e) = ix5 b h s g e := by
    funext ax; apply Fin.ext
    match ax with
    | ⟨0, _⟩ => simp [DotDims.rhsIdx, dotVP, Cert.ReferenceIdeal.dot_S8x2048x2x128_S8x2x2048x8x2048_S8x2x128x2048x8_1_4_3_23_02_01]; rfl
    | ⟨1, _⟩ => simp [DotDims.rhsIdx, dotVP, Cert.ReferenceIdeal.dot_S8x2048x2x128_S8x2x2048x8x2048_S8x2x128x2048x8_1_4_3_23_02_01]; rfl
    | ⟨2, _⟩ => simp [DotDims.rhsIdx, dotVP, Cert.ReferenceIdeal.dot_S8x2048x2x128_S8x2x2048x8x2048_S8x2x128x2048x8_1_4_3_23_02_01]; rfl
    | ⟨3, _⟩ => simp [DotDims.rhsIdx, dotVP, Cert.ReferenceIdeal.dot_S8x2048x2x128_S8x2x2048x8x2048_S8x2x128x2048x8_1_4_3_23_02_01]; rfl
    | ⟨4, _⟩ => simp [DotDims.rhsIdx, dotVP, Cert.ReferenceIdeal.dot_S8x2048x2x128_S8x2x2048x8x2048_S8x2x128x2048x8_1_4_3_23_02_01]; exact c3
  rw [l3, r3]

theorem lift4 (h' : T5.Reduces [4] T4s) (b : Fin 8) (h : Fin 2) (s : Fin 2048) (g : Fin 8) (κ : Fin 2048) : h'.lift (ix4 b h s g) κ = ix5 b h s g κ := by
  funext a; apply Fin.ext; fin_cases a <;> rfl

theorem rMax_le (S : FVec Ideal T5 .f32) (b : Fin 8) (h : Fin 2) (s : Fin 2048) (g : Fin 8) (u : EReal) :
    rMax S (ix4 b h s g) ≤ u ↔ ∀ κ : Fin 2048, S (ix5 b h s g κ) ≤ u := by
  unfold rMax
  have h' : T5.Reduces [4] T4s := by decide
  rw [Host.reduce_eq_fold_single _ _ _ _ h']
  refine (show _ ↔ _ from (Eq.to_iff (by rw [show (constant (F := Ideal) T0 .f32 0xFF800000#32) (Shape.Idx.first _) = ⊥ from bot_f32]; rfl))).trans
    ((fold_max_le _ (S ∘ h'.lift (ix4 b h s g)) u).trans ?_)
  exact ⟨fun hh κ => by rw [← lift4 h']; exact hh κ (Finset.mem_univ _),
    fun hh κ _ => by rw [Function.comp_apply]; exact (congrArg (· ≤ u) (congrArg S (lift4 h' b h s g κ))).mpr (hh κ)⟩

theorem rSum_apply (P : FVec Ideal T5 .f32) (b : Fin 8) (h : Fin 2) (s : Fin 2048) (g : Fin 8) :
    rSum P (ix4 b h s g) = ∑ κ : Fin 2048, P (ix5 b h s g κ) := by
  unfold rSum
  have h' : T5.Reduces [4] T4s := by decide
  show Ideal.hostReduceAdd _ _ _ _ = _
  rw [Ideal.hostReduceAdd_single _ h']
  have z : (constant (F := Ideal) T0 .f32 0x00000000#32) (Shape.Idx.first (by decide)) = 0 := by
    show Ideal.ofBits .f32 0#32 = 0
    simp [Ideal.ofBits, Ideal.ieee]
  refine (congrArg (· + _) z).trans ((zero_add _).trans (Finset.sum_congr rfl fun κ _ => congrArg P (lift4 h' b h s g κ)))

theorem rMask_apply (X : FVec Ideal T5 .f32) (b : Fin 8) (h : Fin 2) (s : Fin 2048) (g : Fin 8) (κ : Fin 2048) :
    rMask X (ix5 b h s g κ) = if κ.val ≤ s.val then X (ix5 b h s g κ) else ⊥ := by
  unfold rMask
  show (if BitVec.ofBool ((BitVec.ofNat 32 κ.val).sle (BitVec.ofNat 32 s.val)) = 1#1 then X (ix5 b h s g κ) else Ideal.ofBits .f32 0xFF800000#32) = _
  rw [Cert.KernelIdeal.Gen.le_of_iota _ _ κ.isLt s.isLt, bot_f32]
  by_cases hk : κ.val ≤ s.val <;> simp [hk]

theorem rFactor_apply (qs : FVec Ideal (T2 16) .f32) (ks : FVec Ideal (T2 2) .f32) (b : Fin 8) (h : Fin 2) (g : Fin 8) :
    rFactor qs ks (ix3 b h g) = qs (ix2 b (⟨8 * h.val + g.val, by omega⟩ : Fin 16)) * ks (ix2 b h) * Ideal.ofBits .f32 0x3DB504F3#32 := by
  unfold rFactor
  pointwise
  simp only [Nat.mul_comm]

theorem rScore_apply (Q : FVec Ideal (T4 16) .f32) (K : FVec Ideal (T4 2) .f32) (qs : FVec Ideal (T2 16) .f32) (ks : FVec Ideal (T2 2) .f32)
    (b : Fin 8) (h : Fin 2) (s : Fin 2048) (g : Fin 8) (κ : Fin 2048) :
    rScore Q K qs ks (ix5 b h s g κ) = if κ.val ≤ s.val then
      (∑ e : Fin 128, K (ix4 b κ h e) * Q (ix4 b s (⟨8 * h.val + g.val, by omega⟩ : Fin 16) e)) * rFactor qs ks (ix3 b h g) else ⊥ := by
  unfold rScore
  rw [rMask_apply]
  refine if_congr Iff.rfl ?_ rfl
  have e1 : Host.dotGeneral dotQK none (shapeCast T5q Q (by decide)) K (ix5 b h s g κ)
      = ∑ e : Fin 128, K (ix4 b κ h e) * Q (ix4 b s (⟨8 * h.val + g.val, by omega⟩ : Fin 16) e) := by
    rw [dotQK_apply]
    refine Finset.sum_congr rfl fun e _ => ?_
    rw [mul_comm]
    refine congrArg (_ * ·) ?_
    pointwise
    simp only [Nat.mul_comm]
  rw [← e1]
  generalize Host.dotGeneral dotQK none (shapeCast T5q Q (by decide)) K = W
  generalize rFactor qs ks = f
  pointwise

theorem rProb_apply (S : FVec Ideal T5 .f32) (b : Fin 8) (h : Fin 2) (s : Fin 2048) (g : Fin 8) (κ : Fin 2048) :
    rProb S (ix5 b h s g κ) = Ideal.exp (S (ix5 b h s g κ) - rMax S (ix4 b h s g)) := by
  unfold rProb
  generalize rMax S = M
  pointwise

theorem rOut_apply (V : FVec Ideal (T4 2) .f32) (P : FVec Ideal T5 .f32) (vs : FVec Ideal (T2 2) .f32) (b : Fin 8) (s : Fin 2048) (h : Fin 2) (g : Fin 8)
    (d : Fin 128) (l : Fin 2048) (hl : l.val = 1024 * h.val + 128 * g.val + d.val) :
    rOut V P vs (ix3 b s l) = Ideal.div ((∑ κ : Fin 2048, V (ix4 b κ h d) * P (ix5 b h s g κ)) * vs (ix2 b h)) (∑ κ : Fin 2048, P (ix5 b h s g κ)) := by
  rw [← rSum_apply, ← dotVP_apply]
  unfold rOut
  generalize Host.dotGeneral dotVP none V P = W
  generalize rSum P = L
  pointwise
  have e1 : (⟨l.val / 1024, by omega⟩ : Fin 2) = h := Fin.ext (by show l.val / 1024 = h.val; omega)
  have e2 : (⟨l.val % 128, by omega⟩ : Fin 128) = d := Fin.ext (by show l.val % 128 = d.val; omega)
  have e3 : (⟨l.val / 128 % 8, by omega⟩ : Fin 8) = g := Fin.ext (by show l.val / 128 % 8 = g.val; omega)
  rw [e1, e2, e3]

end Cert.Attn
-- ==== Proof.RefMean.lean ====
module

public import proofs.«01_k».proof.Proof.RefAttn

/-!
# The reference's output at an index

It is the weighted mean over all keys, with the codes and scales written out.
-/

@[expose] public section

set_option maxRecDepth 16384

noncomputable section

namespace Cert.Attn

open Idealize.ShloMosaic Idealize.ShloMosaic.TcCoe Idealize.ShloMosaic.Tactic
open Idealize.SL Idealize.SL.Sem
open Cert.KernelIdeal.Gen (code)

/-- A key's index, for any natural number. -/
abbrev keyAt (κ : ℕ) : Fin 2048 := ⟨κ % 2048, Nat.mod_lt _ (by decide)⟩

theorem keyAt_val (κ : Fin 2048) : keyAt κ.val = κ := Fin.ext (Nat.mod_eq_of_lt κ.isLt)

section
variable (Q : FVec Ideal (T4 16) .f32) (K V : FVec Ideal (T4 2) .f32) (qs : FVec Ideal (T2 16) .f32) (ks vs : FVec Ideal (T2 2) .f32)
  (b : Fin 8) (h : Fin 2) (s : Fin 2048) (g : Fin 8)

/-- The product of a row and a key. -/
def refScore (κ : ℕ) : EReal := ∑ e : Fin 128, K (ix4 b (keyAt κ) h e) * Q (ix4 b s (⟨8 * h.val + g.val, by omega⟩ : Fin 16) e)

theorem rScore_masked (κ : Fin 2048) : rScore Q K qs ks (ix5 b h s g κ)
    = masked s.val (fun κ => refScore Q K b h s g κ * rFactor qs ks (ix3 b h g)) κ.val := by
  rw [rScore_apply]
  unfold masked refScore
  simp only [keyAt_val]

theorem rMax_isMax : IsMax 2048 s.val (fun κ => refScore Q K b h s g κ * rFactor qs ks (ix3 b h g)) (rMax (rScore Q K qs ks) (ix4 b h s g)) := by
  intro u
  rw [rMax_le]
  exact ⟨fun hh κ hκ => (rScore_masked Q K qs ks b h s g ⟨κ, hκ⟩) ▸ hh ⟨κ, hκ⟩, fun hh κ => (rScore_masked Q K qs ks b h s g κ).symm ▸ hh κ.val κ.isLt⟩

theorem rProb_weight (κ : Fin 2048) : rProb (rScore Q K qs ks) (ix5 b h s g κ)
    = rweight s.val (fun κ => refScore Q K b h s g κ * rFactor qs ks (ix3 b h g)) (rMax (rScore Q K qs ks) (ix4 b h s g)) κ.val := by
  rw [rProb_apply, rScore_masked]
  rfl

/-- The output is a weighted mean. -/
theorem rOut_mean (d : Fin 128) (l : Fin 2048) (hl : l.val = 1024 * h.val + 128 * g.val + d.val) :
    rOut V (rProb (rScore Q K qs ks)) vs (ix3 b s l)
      = rmean 2048 s.val (fun κ => refScore Q K b h s g κ * rFactor qs ks (ix3 b h g)) (fun κ => V (ix4 b (keyAt κ) h d))
          (rMax (rScore Q K qs ks) (ix4 b h s g)) (vs (ix2 b h)) := by
  rw [rOut_apply V _ vs b s h g d l hl]
  unfold rmean
  simp only [rProb_weight, keyAt_val]
end

section
variable {N : Nat}

/-- The reference's codes of the queries, -/
def refQ (X : FVec Ideal ⟨3, ![8, 2048, 2048]⟩ .bf16) : FVec Ideal (T4 16) .f32 :=
  hCodes (shapeCast (T4 16) X (by decide)) (by decide) (by decide) (by decide) (by decide) (by decide)
    (hAmax (shapeCast (T4 16) X (by decide)) (by decide) (by decide) (by decide))

/-- their scales, -/
def refQs (X : FVec Ideal ⟨3, ![8, 2048, 2048]⟩ .bf16) : FVec Ideal (T2 16) .f32 :=
  hScale (by decide) (hAmax (shapeCast (T4 16) X (by decide)) (by decide) (by decide) (by decide))

/-- those of the keys or values, -/
def refKV (X : FVec Ideal ⟨3, ![8, 2048, 256]⟩ .bf16) : FVec Ideal (T4 2) .f32 :=
  hCodes (shapeCast (T4 2) X (by decide)) (by decide) (by decide) (by decide) (by decide) (by decide)
    (hAmax (shapeCast (T4 2) X (by decide)) (by decide) (by decide) (by decide))

/-- and their scales. -/
def refKVs (X : FVec Ideal ⟨3, ![8, 2048, 256]⟩ .bf16) : FVec Ideal (T2 2) .f32 :=
  hScale (by decide) (hAmax (shapeCast (T4 2) X (by decide)) (by decide) (by decide) (by decide))
end

/-- The reference's first result. -/
def refOut (X : FVec Ideal ⟨3, ![8, 2048, 2048]⟩ .bf16) (Y Z : FVec Ideal ⟨3, ![8, 2048, 256]⟩ .bf16) : FVec Ideal ⟨3, ![8, 2048, 2048]⟩ .bf16 :=
  rOut (refKV Z) (rProb (rScore (refQ X) (refKV Y) (refQs X) (refKVs Y))) (refKVs Z)

theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v122 (F := Ideal) m' c
      = refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := rfl

/-! ### Codes are real numbers -/

/-- A code is a real number, whatever its entry. -/
theorem code_real (t i : EReal) : ∃ r : ℝ, code t i = (r : EReal) := by
  have hi : Ideal.ofBits .f32 1138753536#32 = ((448 : ℝ) : EReal) := by
    simp [Ideal.ofBits, Ideal.ieee, -EReal.coe_mul]; norm_num
  have lo : Ideal.ofBits .f32 3286237184#32 = ((-448 : ℝ) : EReal) := by
    simp [Ideal.ofBits, Ideal.ieee, -EReal.coe_mul]; norm_num
  unfold code
  rw [hi, lo]
  refine ⟨_, (EReal.coe_toReal ?_ ?_).symm⟩
  · exact ((min_le_left _ _).trans_lt (EReal.coe_lt_top _)).ne
  · refine (lt_min (EReal.bot_lt_coe _) ?_).ne'
    exact (EReal.bot_lt_coe _).trans_le (le_max_left _ _)

theorem sum_real {n : ℕ} {x y : Fin n → EReal} (hx : ∀ e, ∃ r : ℝ, x e = (r : EReal)) (hy : ∀ e, ∃ r : ℝ, y e = (r : EReal)) :
    ∃ r : ℝ, ∑ e, x e * y e = (r : EReal) := by
  choose u hu using hx
  choose v hv using hy
  refine ⟨∑ e, u e * v e, ?_⟩
  simp only [hu, hv, ← EReal.coe_mul]
  exact (map_sum (⟨⟨Real.toEReal, EReal.coe_zero⟩, EReal.coe_add⟩ : ℝ →+ EReal) _ _).symm

/-- The factor that the scores carry besides the scales. -/
theorem temper_real : ∃ r : ℝ, 0 < r ∧ Ideal.ofBits .f32 1035273459#32 = (r : EReal) := by
  refine ⟨_, ?_, by simp [Ideal.ofBits, Ideal.ieee, -EReal.coe_mul]; rfl⟩
  positivity

end Cert.Attn
-- ==== Proof.TileWords.lean ====
module

public import proofs.«01_k».proof.Proof.Tile
public import proofs.«01_k».proof.Proof.LoopI

/-!
# The eight tiles of a trip

Each of the eight blocks a trip of the head loop stores is the tile of that height.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

theorem inb_key (j : Fin 8) : ∀ a, (![0, 0, 256 * j.val, 0] : Fin 4 → ℕ) a + S1x1x256x128.size a ≤ S1x1x2048x128.size a := by
  revert j; decide

theorem inb_val {i : ℕ} (hi : i < 8) : ∀ a, (![0, 0] : Fin 2 → ℕ) a + (⟨2, ![128, 256 * (i + 1)]⟩ : Shape).size a ≤ S128x2048.size a := by
  intro a
  fin_cases a
  · exact Nat.le_refl 128
  · show 0 + 256 * (i + 1) ≤ 2048; omega

section
variable
  (arg6 : Memref sig .tc .vmem S1x8x2048x128 .fp8e4m3) (arg7 : Memref sig .tc .vmem S1x1x8x128 .f32)
  (arg8 : Memref sig .tc .vmem S1x1x2048x128 .fp8e4m3) (arg12 : Memref sig .tc .vmem S128x2048 .fp8e4m3)
  (arg13 : Memref sig .tc .vmem S2x2048x256 .f32) (arg14 : Memref sig .tc .vmem S2x2048x256 .fp8e4m3)
  (v590 v591 : FVec Ideal S1x1 .f32)
  (X_arg6 : BufTy.Contents (Elt Ideal) arg6.view.ty) (X_arg7 : BufTy.Contents (Elt Ideal) arg7.view.ty)
  (X_arg8 : BufTy.Contents (Elt Ideal) arg8.view.ty) (X_arg12 : BufTy.Contents (Elt Ideal) arg12.view.ty)
  (k : Fin k0_t1_loop.trips)

/-- Key block `j`. -/
def keys (j : Fin 8) : FVec Ideal S256x128 .fp8e4m3 :=
  shapeCast S256x128 (arg8.view.readAt (Elt Ideal) (Rect.unit (s := S1x1x2048x128) ![0, 0, 256 * j.val, 0] S1x1x256x128.size (inb_key j)).toLoadRect X_arg8) (show S1x1x256x128.ShapeCasts S256x128 by decide)

/-- The rows of a tile, from where the trip reads them. -/
def rows (off : Fin 4 → ℕ) (inb : ∀ a, off a + S1x1x256x128.size a ≤ S1x8x2048x128.size a) : FVec Ideal S256x128 .fp8e4m3 :=
  shapeCast S256x128 (arg6.view.readAt (Elt Ideal) (Rect.unit (s := S1x8x2048x128) off S1x1x256x128.size inb).toLoadRect X_arg6) (show S1x1x256x128.ShapeCasts S256x128 by decide)

/-- The value codes of blocks `0 … i`, transposed. -/
def vals (i : ℕ) (hi : i < 8) : FVec Ideal ⟨2, ![128, 256 * (i + 1)]⟩ .fp8e4m3 :=
  arg12.view.readAt (Elt Ideal) (Rect.unit (s := S128x2048) ![0, 0] (⟨2, ![128, 256 * (i + 1)]⟩ : Shape).size (inb_val hi)).toLoadRect X_arg12

/-- Tile `i` of trip `k`, above whatever the stacks held. -/
def tripTile (L13 : List (View.Piece (Elt Ideal) S2x2048x256 .f32)) (L14 : List (View.Piece (Elt Ideal) S2x2048x256 .fp8e4m3))
    (b : ℕ) (hb : b < 2) (i : ℕ) (hi : i < 8) (off : Fin 4 → ℕ) (inb : ∀ a, off a + S1x1x256x128.size a ≤ S1x8x2048x128.size a) :
    FVec Ideal S1x256x128 .bf16 :=
  tile arg13.view arg14.view L13 L14 b hb i hi (keys arg8 X_arg8) (rows arg6 X_arg6 off inb) (vals arg12 X_arg12 i hi)
    (k0_pay5 v590 (arg7.view.readAt (Elt Ideal) (Rect.unit (s := S1x1x8x128) (k0_off1 k) S1x1x1x1.size (k0_off1_inb k)).toLoadRect X_arg7)) v591

end

variable (𝒱 : Variants) (c : Dev nD) (bd : Option 𝒱.V) (i : grid0.Coords)
  (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x1024 .bf16) (harg5 : arg5.IsWhole)
  (arg6 : Memref sig .tc .vmem S1x8x2048x128 .fp8e4m3) (harg6 : arg6.IsWhole)
  (arg7 : Memref sig .tc .vmem S1x1x8x128 .f32) (harg7 : arg7.IsWhole)
  (arg8 : Memref sig .tc .vmem S1x1x2048x128 .fp8e4m3) (harg8 : arg8.IsWhole)
  (arg9 : Memref sig .tc .vmem S1x1x1x128 .f32) (harg9 : arg9.IsWhole)
  (arg10 : Memref sig .tc .vmem S1x1x2048x128 .fp8e4m3) (harg10 : arg10.IsWhole)
  (arg11 : Memref sig .tc .vmem S1x1x1x128 .f32) (harg11 : arg11.IsWhole)
  (arg12 : Memref sig .tc .vmem S128x2048 .fp8e4m3) (harg12 : arg12.IsWhole)
  (arg13 : Memref sig .tc .vmem S2x2048x256 .f32) (harg13 : arg13.IsWhole)
  (arg14 : Memref sig .tc .vmem S2x2048x256 .fp8e4m3) (harg14 : arg14.IsWhole)
  (v590 : FVec Ideal S1x1 .f32) (v591 : FVec Ideal S1x1 .f32)
  (X_arg6 : BufTy.Contents (Elt Ideal) arg6.view.ty) (X_arg7 : BufTy.Contents (Elt Ideal) arg7.view.ty)
  (X_arg8 : BufTy.Contents (Elt Ideal) arg8.view.ty) (X_arg12 : BufTy.Contents (Elt Ideal) arg12.view.ty)
  (k : Fin k0_t1_loop.trips)

/-- The pieces of a trip are its eight tiles. -/
theorem trip_list (f g h) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h = [
      ⟨Rect.unit (s := S1x2048x1024) (k0_off17 k) S1x256x128.size (k0_off17_inb k),
        tripTile arg6 arg7 arg8 arg12 arg13 arg14 v590 v591 X_arg6 X_arg7 X_arg8 X_arg12 k (trip_k0_t1.sl.HW_arg13_28 arg6 arg8 X_arg6 X_arg8 k) (trip_k0_t1.sl.HW_arg14_28 arg6 arg7 arg8 arg13 v590 X_arg6 X_arg7 X_arg8 k) 1 (by decide) 7 (by decide) (k0_off16 k) (k0_off16_inb k)⟩,
      ⟨Rect.unit (s := S1x2048x1024) (k0_off15 k) S1x256x128.size (k0_off15_inb k),
        tripTile arg6 arg7 arg8 arg12 arg13 arg14 v590 v591 X_arg6 X_arg7 X_arg8 X_arg12 k (trip_k0_t1.sl.HW_arg13_21 arg6 arg8 X_arg6 X_arg8 k) (trip_k0_t1.sl.HW_arg14_21 arg6 arg7 arg8 arg13 v590 X_arg6 X_arg7 X_arg8 k) 0 (by decide) 6 (by decide) (k0_off14 k) (k0_off14_inb k)⟩,
      ⟨Rect.unit (s := S1x2048x1024) (k0_off13 k) S1x256x128.size (k0_off13_inb k),
        tripTile arg6 arg7 arg8 arg12 arg13 arg14 v590 v591 X_arg6 X_arg7 X_arg8 X_arg12 k (trip_k0_t1.sl.HW_arg13_15 arg6 arg8 X_arg6 X_arg8 k) (trip_k0_t1.sl.HW_arg14_15 arg6 arg7 arg8 arg13 v590 X_arg6 X_arg7 X_arg8 k) 1 (by decide) 5 (by decide) (k0_off12 k) (k0_off12_inb k)⟩,
      ⟨Rect.unit (s := S1x2048x1024) (k0_off11 k) S1x256x128.size (k0_off11_inb k),
        tripTile arg6 arg7 arg8 arg12 arg13 arg14 v590 v591 X_arg6 X_arg7 X_arg8 X_arg12 k (trip_k0_t1.sl.HW_arg13_10 arg6 arg8 X_arg6 X_arg8 k) (trip_k0_t1.sl.HW_arg14_10 arg6 arg7 arg8 arg13 v590 X_arg6 X_arg7 X_arg8 k) 0 (by decide) 4 (by decide) (k0_off10 k) (k0_off10_inb k)⟩,
      ⟨Rect.unit (s := S1x2048x1024) (k0_off9 k) S1x256x128.size (k0_off9_inb k),
        tripTile arg6 arg7 arg8 arg12 arg13 arg14 v590 v591 X_arg6 X_arg7 X_arg8 X_arg12 k (trip_k0_t1.sl.HW_arg13_6 arg6 arg8 X_arg6 X_arg8 k) (trip_k0_t1.sl.HW_arg14_6 arg6 arg7 arg8 arg13 v590 X_arg6 X_arg7 X_arg8 k) 1 (by decide) 3 (by decide) (k0_off8 k) (k0_off8_inb k)⟩,
      ⟨Rect.unit (s := S1x2048x1024) (k0_off7 k) S1x256x128.size (k0_off7_inb k),
        tripTile arg6 arg7 arg8 arg12 arg13 arg14 v590 v591 X_arg6 X_arg7 X_arg8 X_arg12 k (trip_k0_t1.sl.HW_arg13_3 arg6 arg8 X_arg6 X_arg8 k) (trip_k0_t1.sl.HW_arg14_3 arg6 arg7 arg8 arg13 v590 X_arg6 X_arg7 X_arg8 k) 0 (by decide) 2 (by decide) (k0_off6 k) (k0_off6_inb k)⟩,
      ⟨Rect.unit (s := S1x2048x1024) (k0_off5 k) S1x256x128.size (k0_off5_inb k),
        tripTile arg6 arg7 arg8 arg12 arg13 arg14 v590 v591 X_arg6 X_arg7 X_arg8 X_arg12 k (trip_k0_t1.sl.HW_arg13_1 arg6 arg8 X_arg6 X_arg8 k) (trip_k0_t1.sl.HW_arg14_1 arg6 arg7 arg8 arg13 v590 X_arg6 X_arg7 X_arg8 k) 1 (by decide) 1 (by decide) (k0_off4 k) (k0_off4_inb k)⟩,
      ⟨Rect.unit (s := S1x2048x1024) (k0_off3 k) S1x256x128.size (k0_off3_inb k),
        tripTile arg6 arg7 arg8 arg12 arg13 arg14 v590 v591 X_arg6 X_arg7 X_arg8 X_arg12 k [] [] 0 (by decide) 0 (by decide) (k0_off2 k) (k0_off2_inb k)⟩] := by
  delta trip_k0_t1
  rfl

/-! ### Where trip `k` reads its rows and its scale -/

theorem off2_eq : ∀ k : Fin k0_t1_loop.trips, k0_off2 k = ![0, k.val, 0, 0] := by decide +kernel
theorem off4_eq : ∀ k : Fin k0_t1_loop.trips, k0_off4 k = ![0, k.val, 256, 0] := by decide +kernel
theorem off6_eq : ∀ k : Fin k0_t1_loop.trips, k0_off6 k = ![0, k.val, 512, 0] := by decide +kernel
theorem off8_eq : ∀ k : Fin k0_t1_loop.trips, k0_off8 k = ![0, k.val, 768, 0] := by decide +kernel
theorem off10_eq : ∀ k : Fin k0_t1_loop.trips, k0_off10 k = ![0, k.val, 1024, 0] := by decide +kernel
theorem off12_eq : ∀ k : Fin k0_t1_loop.trips, k0_off12 k = ![0, k.val, 1280, 0] := by decide +kernel
theorem off14_eq : ∀ k : Fin k0_t1_loop.trips, k0_off14 k = ![0, k.val, 1536, 0] := by decide +kernel
theorem off16_eq : ∀ k : Fin k0_t1_loop.trips, k0_off16 k = ![0, k.val, 1792, 0] := by decide +kernel
theorem off1_eq : ∀ k : Fin k0_t1_loop.trips, k0_off1 k = ![0, 0, k.val, 0] := by decide +kernel

/-- So each piece is the tile of some height, stored at that height. -/
theorem trip_tile (f g h) : ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v590 v591 X_arg6 X_arg7 X_arg8 X_arg12 k).1 f g h,
    ∃ (n : ℕ) (hn : n < 8) (L13 : _) (L14 : _) (b : ℕ) (hb : b < 2) (off : Fin 4 → ℕ) (inb : _) (off' : Fin 3 → ℕ) (inb' : _),
      off = ![0, k.val, 256 * n, 0] ∧ off' = ![0, 256 * n, 128 * k.val] ∧
      p = ⟨Rect.unit (s := S1x2048x1024) off' S1x256x128.size inb',
        tripTile arg6 arg7 arg8 arg12 arg13 arg14 v590 v591 X_arg6 X_arg7 X_arg8 X_arg12 k L13 L14 b hb n hn off inb⟩ := by
  intro p hp
  rw [trip_list] at hp
  simp only [List.mem_cons, List.not_mem_nil, or_false] at hp
  rcases hp with hp | hp | hp | hp | hp | hp | hp | hp
  · exact ⟨7, _, _, _, 1, _, _, _, _, _, off16_eq k, off17_eq k, hp⟩
  · exact ⟨6, _, _, _, 0, _, _, _, _, _, off14_eq k, off15_eq k, hp⟩
  · exact ⟨5, _, _, _, 1, _, _, _, _, _, off12_eq k, off13_eq k, hp⟩
  · exact ⟨4, _, _, _, 0, _, _, _, _, _, off10_eq k, off11_eq k, hp⟩
  · exact ⟨3, _, _, _, 1, _, _, _, _, _, off8_eq k, off9_eq k, hp⟩
  · exact ⟨2, _, _, _, 0, _, _, _, _, _, off6_eq k, off7_eq k, hp⟩
  · exact ⟨1, _, _, _, 1, _, _, _, _, _, off4_eq k, off5_eq k, hp⟩
  · exact ⟨0, _, _, _, 0, _, _, _, _, _, off2_eq k, off3_eq k, hp⟩

end Cert.KernelIdeal.Gen
-- ==== Proof.Inputs.lean ====
module

public import proofs.«01_k».proof.Proof.TileWords
public import proofs.«01_k».proof.Proof.TileVal
public import proofs.«01_k».proof.Proof.OutScales

/-!
# What the head loop reads

The codes and scales that the loop reads are those stored before it.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-- The codes of query head `g`. -/
def qcode (B : S1x2048x1024.Idx → EReal) (g : Fin 8) (s : Fin 2048) (e : Fin 128) : EReal :=
  code (B (ix3 0 s (⟨128 * g.val + e.val, by omega⟩ : Fin 1024)))
    (kinv (headMax fun s d => B (ix3 0 s (⟨128 * g.val + d.val, by omega⟩ : Fin 1024))))

/-- The codes of the key or the value head. -/
def kvcode (B : S1x2048x128.Idx → EReal) (s : Fin 2048) (e : Fin 128) : EReal :=
  code (B (ix3 0 s e)) (kinv (headMax fun s d => B (ix3 0 s d)))

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)
  (arg6 : Memref sig .tc .vmem S1x8x2048x128 .fp8e4m3) (arg7 : Memref sig .tc .vmem S1x1x8x128 .f32)
  (arg8 : Memref sig .tc .vmem S1x1x2048x128 .fp8e4m3) (arg12 : Memref sig .tc .vmem S128x2048 .fp8e4m3)

theorem castKey_apply (f : S1x1x256x128.Idx → EReal) (h : S1x1x256x128.ShapeCasts S256x128) (x : Fin 256) (e : Fin 128) :
    shapeCast S256x128 f h (ix2 x e) = f (ix4 0 0 x e) := by
  pointwise

/-- Key block `j`; -/
theorem keys_apply (j : Fin 8) (x : Fin 256) (e : Fin 128) :
    keys arg8 (arg8.view.writes (Elt Ideal) arg8.view.junk (bodyRun.sl.Harg8_8 (F := Ideal) arg2 arg3 arg4 (harg2.unread B2) (harg3.unread B3) (harg4.unread B4))) j (ix2 x e)
      = kvcode B3 (⟨256 * j.val + x.val, by omega⟩ : Fin 2048) e := by
  unfold keys
  rw [View.readAt_writes_junk_eq_canon]
  refine (castKey_apply _ _ x e).trans ?_
  refine (View.canon_apply_of_pieces _ _ (k_pieces _ _ _ _ _ _ _ _ _) _ (k_cover _ _ _ _ _ _ _)).trans ?_
  unfold codesKV kvcode
  refine congrArg₂ code (congrArg B3 ?_) (inv_k _ _ _ _ _ _ _ _ _)
  funext a; apply Fin.ext; fin_cases a
  · rfl
  · show 256 * j.val + 1 * x.val = 256 * j.val + x.val; omega
  · show 0 + 1 * e.val = e.val; omega

/-- the rows of tile `n` of head `g`; -/
theorem rows_apply (g : Fin 8) (n : ℕ) (hn : n < 8) (off : Fin 4 → ℕ) (inb) (ho : off = ![0, g.val, 256 * n, 0]) (r : Fin 256) (e : Fin 128) :
    rows arg6 (arg6.view.writes (Elt Ideal) arg6.view.junk (bodyRun.sl.Harg6_64 (F := Ideal) arg2 arg3 arg4 (harg2.unread B2) (harg3.unread B3) (harg4.unread B4))) off inb (ix2 r e)
      = qcode B2 g (⟨256 * n + r.val, by omega⟩ : Fin 2048) e := by
  subst ho
  unfold rows
  rw [View.readAt_writes_junk_eq_canon]
  refine (castKey_apply _ _ r e).trans ?_
  refine (View.canon_apply_of_pieces _ _ (q_pieces _ _ _ _ _ _ _ _ _) _ (q_cover _ _ _ _ _ _ _)).trans ?_
  unfold codesQ qcode
  refine congrArg₂ code (congrArg B2 ?_) (Eq.trans (congrArg _ ?_) (inv_q arg2 harg2 arg3 harg3 arg4 harg4 B2 B3 B4 g))
  · funext a; apply Fin.ext; fin_cases a
    · rfl
    · show 256 * n + 1 * r.val = 256 * n + r.val; omega
    · show 128 * (g.val + 1 * 0) + (0 + 1 * e.val) = 128 * g.val + e.val; omega
  · funext a; apply Fin.ext; fin_cases a
    · show g.val + 1 * 0 = g.val; omega
    · rfl

/-- the value codes, transposed; -/
theorem vals_apply (i : ℕ) (hi : i < 8) (d : Fin 128) (κ : Fin (256 * (i + 1))) :
    vals arg12 (arg12.view.writes (Elt Ideal) arg12.view.junk (bodyRun.sl.Harg12_8 (F := Ideal) arg2 arg3 arg4 (harg2.unread B2) (harg3.unread B3) (harg4.unread B4))) i hi (ix2 d κ)
      = kvcode B4 (⟨κ.val, by have := κ.isLt; omega⟩ : Fin 2048) d := by
  unfold vals
  rw [View.readAt_writes_junk_eq_canon]
  refine (View.canon_apply_of_pieces _ _ (t_pieces _ _ _ _ _ _ _ _ _) _ (t_cover _ _ _ _ _ _ _)).trans ?_
  unfold codesT kvcode
  refine congrArg₂ code (congrArg B4 ?_) (inv_v _ _ _ _ _ _ _ _ _)
  funext a; apply Fin.ext; fin_cases a
  · rfl
  · show 0 + 1 * κ.val = κ.val; omega
  · show 0 + 1 * d.val = d.val; omega

/-- the scale of the key head; -/
theorem v590_apply : bodyRun.sl.v590 (F := Ideal) arg2 arg3 arg4 (harg2.unread B2) (harg3.unread B3) (harg4.unread B4) (ix2 0 0)
    = kscale (headMax fun s d => B3 (ix3 0 s d)) := by
  refine Eq.trans ?_ ((v577_apply _ _ _ _ _ _ (8 : Fin 16) (0 : Fin 128)).trans (congrArg kscale (v502_k arg2 harg2 arg3 harg3 arg4 harg4 B2 B3 B4)))
  unfold bodyRun.sl.v590
  generalize bodyRun.sl.v577 (F := Ideal) arg2 arg3 arg4 (harg2.unread B2) (harg3.unread B3) (harg4.unread B4) = X
  pointwise
  try congr 1

/-- that of the value head; -/
theorem v591_apply : bodyRun.sl.v591 (F := Ideal) arg2 arg3 arg4 (harg2.unread B2) (harg3.unread B3) (harg4.unread B4) (ix2 0 0)
    = kscale (headMax fun s d => B4 (ix3 0 s d)) := by
  refine Eq.trans ?_ ((v577_apply _ _ _ _ _ _ (9 : Fin 16) (0 : Fin 128)).trans (congrArg kscale (v502_v arg2 harg2 arg3 harg3 arg4 harg4 B2 B3 B4)))
  unfold bodyRun.sl.v591
  generalize bodyRun.sl.v577 (F := Ideal) arg2 arg3 arg4 (harg2.unread B2) (harg3.unread B3) (harg4.unread B4) = X
  pointwise
  try congr 1

/-- The factor of the scores in the exponent. -/
def factor (B2 : S1x2048x1024.Idx → EReal) (B3 : S1x2048x128.Idx → EReal) (g : Fin 8) : EReal :=
  kscale (headMax fun s d => B2 (ix3 0 s (⟨128 * g.val + d.val, by omega⟩ : Fin 1024))) * kscale (headMax fun s d => B3 (ix3 0 s d))
    * Ideal.ofBits .f32 1035273459#32 * (((Real.log 2)⁻¹ : ℝ) : EReal)

theorem factor_read (f : S1x1x1x1.Idx → EReal) (v : FVec Ideal S1x1 .f32) :
    k0_pay5 v f (ix2 0 0) = f (ix4 0 0 0 0) * v (ix2 0 0) * Ideal.ofBits .f32 1035273459#32 * (((Real.log 2)⁻¹ : ℝ) : EReal) := by
  unfold k0_pay5
  pointwise
  rfl

theorem scale_canon (w : S1x1x8x128.Idx → EReal) (inb0 : ∀ a, (![0, 0, 0, 0] : Fin 4 → ℕ) a + S1x1x8x128.size a ≤ S1x1x8x128.size a) (y : S1x1x8x128.Idx) :
    View.canon (Val := Elt Ideal) (s := S1x1x8x128) (e := .f32) [⟨Rect.unit ![0, 0, 0, 0] S1x1x8x128.size inb0, w⟩] y = w y :=
  congrFun (View.canon_unit_zero (Val := Elt Ideal) (S := S1x1x8x128) (e := .f32) (by funext a; fin_cases a <;> rfl) inb0 w) y

/-- The scale of head `g`, as read; -/
theorem scale_apply (g : Fin 8) (off : Fin 4 → ℕ) (inb : ∀ a, off a + S1x1x1x1.size a ≤ S1x1x8x128.size a) (ho : off = ![0, 0, g.val, 0]) :
    arg7.view.readAt (Elt Ideal) (Rect.unit (s := S1x1x8x128) off S1x1x1x1.size inb).toLoadRect
        (arg7.view.writes (Elt Ideal) arg7.view.junk (bodyRun.sl.Harg7_1 (F := Ideal) arg2 arg3 arg4 (harg2.unread B2) (harg3.unread B3) (harg4.unread B4))) (ix4 0 0 0 0)
      = kscale (headMax fun s d => B2 (ix3 0 s (⟨128 * g.val + d.val, by omega⟩ : Fin 1024))) := by
  subst ho
  rw [View.readAt_writes_junk_eq_canon]
  rw [← v581_apply arg2 harg2 arg3 harg3 arg4 harg4 B2 B3 B4 g (0 : Fin 128)]
  unfold bodyRun.sl.Harg7_1
  generalize bodyRun.sl.v581 (F := Ideal) arg2 arg3 arg4 (harg2.unread B2) (harg3.unread B3) (harg4.unread B4) = w
  refine (scale_canon w _ _).trans (congrArg w ?_)
  funext a; apply Fin.ext; fin_cases a
  · rfl
  · rfl
  · show g.val + 1 * 0 = g.val; omega
  · rfl

/-- and the factor of head `g`. -/
theorem factor_apply (g : Fin 8) (off : Fin 4 → ℕ) (inb : ∀ a, off a + S1x1x1x1.size a ≤ S1x1x8x128.size a) (ho : off = ![0, 0, g.val, 0]) :
    k0_pay5 (bodyRun.sl.v590 (F := Ideal) arg2 arg3 arg4 (harg2.unread B2) (harg3.unread B3) (harg4.unread B4))
      (arg7.view.readAt (Elt Ideal) (Rect.unit (s := S1x1x8x128) off S1x1x1x1.size inb).toLoadRect
        (arg7.view.writes (Elt Ideal) arg7.view.junk (bodyRun.sl.Harg7_1 (F := Ideal) arg2 arg3 arg4 (harg2.unread B2) (harg3.unread B3) (harg4.unread B4)))) (ix2 0 0)
      = factor B2 B3 g := by
  have h1 := scale_apply arg2 harg2 arg3 harg3 arg4 harg4 B2 B3 B4 arg7 g off inb ho
  have h2 := v590_apply arg2 harg2 arg3 harg3 arg4 harg4 B2 B3 B4
  unfold factor
  rw [factor_read, h1, h2]

end

end Cert.KernelIdeal.Gen
-- ==== Proof.Attn.lean ====
module

public import proofs.«01_k».proof.Proof.Inputs
public import proofs.«01_k».proof.Proof.Outs

/-!
# The attention block of a grid point

Entry `(s, 128 g + d)` of the block that a grid point leaves is the weighted mean, over the keys up to the end of the row's
tile, of column `d` of the value codes.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Attn

/-- The greatest of the first `n` masked scores. -/
def greatest (n q : ℕ) (S : ℕ → EReal) : EReal := (Finset.range n).sup (masked q S)

theorem greatest_isMax (n q : ℕ) (S : ℕ → EReal) : IsMax n q S (greatest n q S) := by
  intro u
  unfold greatest
  simp only [Finset.sup_le_iff, Finset.mem_range]

theorem isMax_greatest {n q : ℕ} {S : ℕ → EReal} {m : EReal} (h : IsMax n q S m) : m = greatest n q S :=
  eq_of_forall_ge_iff fun u => (h u).trans (greatest_isMax n q S u).symm

/-- The score of key `κ` against row `s` of head `g`. -/
def rowScore (B2 : S1x2048x1024.Idx → EReal) (B3 : S1x2048x128.Idx → EReal) (g : Fin 8) (s : Fin 2048) (κ : ℕ) : EReal :=
  ∑ e : Fin 128, kvcode B3 (⟨κ % 2048, Nat.mod_lt _ (by decide)⟩ : Fin 2048) e * qcode B2 g s e

/-- Column `d` of the value codes. -/
def column (B4 : S1x2048x128.Idx → EReal) (d : Fin 128) (κ : ℕ) : EReal := kvcode B4 (⟨κ % 2048, Nat.mod_lt _ (by decide)⟩ : Fin 2048) d

/-- An entry of the attention block. -/
def entry (B2 : S1x2048x1024.Idx → EReal) (B3 B4 : S1x2048x128.Idx → EReal) (g : Fin 8) (s : Fin 2048) (d : Fin 128) : EReal :=
  kmean (256 * (s.val / 256 + 1)) s.val (rowScore B2 B3 g s) (column B4 d) (greatest (256 * (s.val / 256 + 1)) s.val (rowScore B2 B3 g s))
    (factor B2 B3 g) (kscale (headMax fun s d => B4 (ix3 0 s d)))

/-- The attention block. -/
def attnBlock (B2 : S1x2048x1024.Idx → EReal) (B3 B4 : S1x2048x128.Idx → EReal) (y : S1x2048x1024.Idx) : EReal :=
  entry B2 B3 B4 (⟨(y 2).val / 128, by have h : (y 2).val < 1024 := (y 2).isLt; omega⟩ : Fin 8) (y 1) (⟨(y 2).val % 128, Nat.mod_lt _ (by decide)⟩ : Fin 128)

theorem attnBlock_of (B2 : S1x2048x1024.Idx → EReal) (B3 B4 : S1x2048x128.Idx → EReal) (y : S1x2048x1024.Idx) (g : Fin 8) (s : Fin 2048) (d : Fin 128)
    (h1 : (y 1).val = s.val) (h2 : (y 2).val = 128 * g.val + d.val) : attnBlock B2 B3 B4 y = entry B2 B3 B4 g s d := by
  unfold attnBlock
  have hd := d.isLt
  have e1 : (⟨(y 2).val / 128, by have h : (y 2).val < 1024 := (y 2).isLt; omega⟩ : Fin 8) = g := Fin.ext (by show (y 2).val / 128 = g.val; omega)
  have e2 : (⟨(y 2).val % 128, Nat.mod_lt _ (by decide)⟩ : Fin 128) = d := Fin.ext (by show (y 2).val % 128 = d.val; omega)
  have e3 : y 1 = s := Fin.ext h1
  rw [e1, e2, e3]

section
variable (arg2 : Memref sig .tc .vmem S1x2048x1024 .bf16) (harg2 : arg2.IsWhole)
  (arg3 : Memref sig .tc .vmem S1x2048x128 .bf16) (harg3 : arg3.IsWhole)
  (arg4 : Memref sig .tc .vmem S1x2048x128 .bf16) (harg4 : arg4.IsWhole)
  (B2 : S1x2048x1024.Idx → EReal) (B3 B4 : S1x2048x128.Idx → EReal)
  (arg6 : Memref sig .tc .vmem S1x8x2048x128 .fp8e4m3) (arg7 : Memref sig .tc .vmem S1x1x8x128 .f32)
  (arg8 : Memref sig .tc .vmem S1x1x2048x128 .fp8e4m3) (arg12 : Memref sig .tc .vmem S128x2048 .fp8e4m3)
  (arg13 : Memref sig .tc .vmem S2x2048x256 .f32) (arg14 : Memref sig .tc .vmem S2x2048x256 .fp8e4m3)

/-- A tile of a trip is that part of the attention block. -/
theorem tripTile_apply (k : Fin k0_t1_loop.trips) (L13 L14) (b : ℕ) (hb : b < 2) (n : ℕ) (hn : n < 8) (off : Fin 4 → ℕ) (inb)
    (ho : off = ![0, k.val, 256 * n, 0]) (g : Fin 8) (hg : g.val = k.val) (s : Fin 2048) (r : Fin 256) (hs : s.val = 256 * n + r.val) (d : Fin 128) :
    tripTile arg6 arg7 arg8 arg12 arg13 arg14
      (bodyRun.sl.v590 (F := Ideal) arg2 arg3 arg4 (harg2.unread B2) (harg3.unread B3) (harg4.unread B4))
      (bodyRun.sl.v591 (F := Ideal) arg2 arg3 arg4 (harg2.unread B2) (harg3.unread B3) (harg4.unread B4))
      (arg6.view.writes (Elt Ideal) arg6.view.junk (bodyRun.sl.Harg6_64 (F := Ideal) arg2 arg3 arg4 (harg2.unread B2) (harg3.unread B3) (harg4.unread B4)))
      (arg7.view.writes (Elt Ideal) arg7.view.junk (bodyRun.sl.Harg7_1 (F := Ideal) arg2 arg3 arg4 (harg2.unread B2) (harg3.unread B3) (harg4.unread B4)))
      (arg8.view.writes (Elt Ideal) arg8.view.junk (bodyRun.sl.Harg8_8 (F := Ideal) arg2 arg3 arg4 (harg2.unread B2) (harg3.unread B3) (harg4.unread B4)))
      (arg12.view.writes (Elt Ideal) arg12.view.junk (bodyRun.sl.Harg12_8 (F := Ideal) arg2 arg3 arg4 (harg2.unread B2) (harg3.unread B3) (harg4.unread B4)))
      k L13 L14 b hb n hn off inb (ix3 0 r d) = entry B2 B3 B4 g s d := by
  have hr := r.isLt
  obtain ⟨m, hm, e⟩ := tile_apply arg13.view arg14.view L13 L14 b hb n hn
    (keys arg8 (arg8.view.writes (Elt Ideal) arg8.view.junk (bodyRun.sl.Harg8_8 (F := Ideal) arg2 arg3 arg4 (harg2.unread B2) (harg3.unread B3) (harg4.unread B4))))
    (rows arg6 (arg6.view.writes (Elt Ideal) arg6.view.junk (bodyRun.sl.Harg6_64 (F := Ideal) arg2 arg3 arg4 (harg2.unread B2) (harg3.unread B3) (harg4.unread B4))) off inb)
    (vals arg12 (arg12.view.writes (Elt Ideal) arg12.view.junk (bodyRun.sl.Harg12_8 (F := Ideal) arg2 arg3 arg4 (harg2.unread B2) (harg3.unread B3) (harg4.unread B4))) n hn)
    (k0_pay5 (bodyRun.sl.v590 (F := Ideal) arg2 arg3 arg4 (harg2.unread B2) (harg3.unread B3) (harg4.unread B4))
      (arg7.view.readAt (Elt Ideal) (Rect.unit (s := S1x1x8x128) (k0_off1 k) S1x1x1x1.size (k0_off1_inb k)).toLoadRect
        (arg7.view.writes (Elt Ideal) arg7.view.junk (bodyRun.sl.Harg7_1 (F := Ideal) arg2 arg3 arg4 (harg2.unread B2) (harg3.unread B3) (harg4.unread B4)))))
    (bodyRun.sl.v591 (F := Ideal) arg2 arg3 arg4 (harg2.unread B2) (harg3.unread B3) (harg4.unread B4))
    r d (rowScore B2 B3 g s) (column B4 d)
    (fun j x => by
      have hx := x.isLt
      have hj := j.isLt
      unfold rowScore
      refine Finset.sum_congr rfl fun e _ => ?_
      rw [keys_apply, rows_apply arg2 harg2 arg3 harg3 arg4 harg4 B2 B3 B4 arg6 g n hn off inb (by rw [hg]; exact ho)]
      refine congrArg₂ (· * ·) (congrArg (kvcode B3 · e) (Fin.ext ?_)) (congrArg (qcode B2 g · e) (Fin.ext hs))
      exact Nat.mod_eq_of_lt (by omega))
    (fun κ => by
      have hκ := κ.isLt
      rw [vals_apply]
      unfold column
      refine congrArg (kvcode B4 · d) (Fin.ext ?_)
      exact (Nat.mod_eq_of_lt (by omega)).symm)
  unfold tripTile
  rw [e, isMax_greatest hm]
  rw [factor_apply arg2 harg2 arg3 harg3 arg4 harg4 B2 B3 B4 arg7 g (k0_off1 k) (k0_off1_inb k) (by rw [hg]; exact off1_eq k), v591_apply]
  unfold entry
  rw [show s.val / 256 = n by omega, hs]

variable (𝒱 : Variants) (c : Dev nD) (bd : Option 𝒱.V) (i : grid0.Coords)
  (arg5 : Memref sig .tc .vmem S1x2048x1024 .bf16) (harg5 : arg5.IsWhole)
  (harg6 : arg6.IsWhole) (harg7 : arg7.IsWhole) (harg8 : arg8.IsWhole)
  (arg9 : Memref sig .tc .vmem S1x1x1x128 .f32) (harg9 : arg9.IsWhole)
  (arg10 : Memref sig .tc .vmem S1x1x2048x128 .fp8e4m3) (harg10 : arg10.IsWhole)
  (arg11 : Memref sig .tc .vmem S1x1x1x128 .f32) (harg11 : arg11.IsWhole)
  (harg12 : arg12.IsWhole) (harg13 : arg13.IsWhole) (harg14 : arg14.IsWhole)

/-- Each piece that a trip stores is that part of the attention block. -/
theorem trip_block (k : Fin k0_t1_loop.trips) (f g h) : ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14
      (bodyRun.sl.v590 (F := Ideal) arg2 arg3 arg4 (harg2.unread B2) (harg3.unread B3) (harg4.unread B4))
      (bodyRun.sl.v591 (F := Ideal) arg2 arg3 arg4 (harg2.unread B2) (harg3.unread B3) (harg4.unread B4))
      (arg6.view.writes (Elt Ideal) arg6.view.junk (bodyRun.sl.Harg6_64 (F := Ideal) arg2 arg3 arg4 (harg2.unread B2) (harg3.unread B3) (harg4.unread B4)))
      (arg7.view.writes (Elt Ideal) arg7.view.junk (bodyRun.sl.Harg7_1 (F := Ideal) arg2 arg3 arg4 (harg2.unread B2) (harg3.unread B3) (harg4.unread B4)))
      (arg8.view.writes (Elt Ideal) arg8.view.junk (bodyRun.sl.Harg8_8 (F := Ideal) arg2 arg3 arg4 (harg2.unread B2) (harg3.unread B3) (harg4.unread B4)))
      (arg12.view.writes (Elt Ideal) arg12.view.junk (bodyRun.sl.Harg12_8 (F := Ideal) arg2 arg3 arg4 (harg2.unread B2) (harg3.unread B3) (harg4.unread B4))) k).1 f g h,
    ∀ x : p.1.shape.Idx, p.2 x = attnBlock B2 B3 B4 (p.1.emb x) := by
  intro p hp
  obtain ⟨n, hn, L13, L14, b, hb, off, inb, off', inb', ho, ho', rfl⟩ := trip_tile _ _ _ _ _ _ _ _ _ _ _ _ _ _ _ _ _ _ _ _ _ _ _ _ _ _ _ _ _ _ _ _ _ _ _ _ _ _ _ _ p hp
  intro x
  have hk : k.val < 8 := trips_eq ▸ k.isLt
  obtain ⟨r, d, rfl⟩ : ∃ (r : Fin 256) (d : Fin 128), x = ix3 0 r d :=
    ⟨x 1, x 2, by funext a; fin_cases a <;> first | rfl | exact Subsingleton.elim (α := Fin 1) _ _⟩
  subst ho'
  refine (tripTile_apply arg2 harg2 arg3 harg3 arg4 harg4 B2 B3 B4 arg6 arg7 arg8 arg12 arg13 arg14 k L13 L14 b hb n hn off inb ho ⟨k.val, hk⟩ rfl
    (⟨256 * n + r.val, by omega⟩ : Fin 2048) r rfl d).trans (attnBlock_of B2 B3 B4 _ _ _ _ ?_ ?_).symm
  · show 256 * n + 1 * r.val = 256 * n + r.val; omega
  · show 128 * k.val + 1 * d.val = 128 * k.val + d.val; omega
end

variable (m : (ℓ : Loc nD τ sig) → Buf (Elt Ideal) ℓ) (c : Dev nD) (t : Fin cfg0.N)

theorem out0_3_apply (y : S1x2048x1024.Idx) : out0_3 m c t y = attnBlock (xb m c t) (kb m c t) (vb m c t) y := by
  have hy : (y 2).val < 128 * 8 := (y 2).isLt
  unfold out0_3
  delta runAt bodyRun
  dsimp only
  refine View.canon_apply_of_pieces _ _ ?_ y ?_
  · exact loop_forall _ _ _ _ _ _ _ _ _ _ _ _ _ _ _ _ _ _ _ _ _ _ _ _ _ _ _ _ _ _ _ _ _ _ _ _ _ _ _ (fun p => ∀ x : p.1.shape.Idx, p.2 x = attnBlock (xb m c t) (kb m c t) (vb m c t) (p.1.emb x))
      (fun k f g h => trip_block _ _ _ _ _ _ _ _ _ _ _ _ _ _ _ _ _ _ _ _ _ _ _ _ _ _ _ _ _ _ _ _ _ k f g h) _ le_rfl
  · exact loop_cover _ _ _ _ _ _ _ _ _ _ _ _ _ _ _ _ _ _ _ _ _ _ _ _ _ _ _ _ _ _ _ _ _ _ _ _ _ _ _ _ le_rfl y (by rw [trips_eq]; exact hy)

end Cert.KernelIdeal.Gen
-- ==== Proof.Algebraic.lean ====
module

public import proofs.«01_k».proof.Proof.Tail
public import proofs.«01_k».proof.Defs

/-!
# The returned codes and scales are the reference's
-/

@[expose] public section

set_option maxRecDepth 16384

noncomputable section

namespace Cert.Attn

open Idealize.ShloMosaic Idealize.ShloMosaic.TcCoe Idealize.ShloMosaic.Tactic
open Idealize.SL Idealize.SL.Sem
open Cert.KernelIdeal.Gen (A0 A1 A2 fin fin_v3 fin_v4 fin_v5 fin_v7 fin_v8 fin_v10 code)

theorem kscale_eq {a : EReal} (h : Ok a) : kscale a = rscale a := by
  obtain ⟨e, h1, h2, -⟩ := scale_eq h
  rw [h1, h2]

theorem kinv_eq {a : EReal} (h : Ok a) : kinv a = rinv a := by
  obtain ⟨e, -, -, h1, h2⟩ := scale_eq h
  rw [h1, h2]

variable (m : (ℓ : Loc Cert.KernelIdeal.nD Cert.KernelIdeal.τ Cert.KernelIdeal.sig) → Buf (Elt Ideal) ℓ) (c : Dev Cert.KernelIdeal.nD)
  (h0 : ∀ b n, Ok (amaxQ (A0 m c) b n)) (h1 : ∀ b n, Ok (amaxKV (A1 m c) b n)) (h2 : ∀ b n, Ok (amaxKV (A2 m c) b n))
include h0 h1 h2

theorem q_codes_eq (h) (hx) (hr) (h0') (hb) (hb1) (hb2) (hb4) :
    hCodes (shapeCast (T4 16) (A0 m c) h) hx hb hb1 hb2 hb4 (hAmax (shapeCast (T4 16) (A0 m c) h) hx hr h0') = fin m c Cert.KernelIdeal.main_v4 := by
  funext i
  obtain ⟨b, s, n, d, rfl⟩ : ∃ (b : Fin 8) (s : Fin 2048) (n : Fin 16) (d : Fin 128), i = ix4 b s n d :=
    ⟨i 0, i 1, i 2, i 3, by funext a; fin_cases a <;> rfl⟩
  rw [codesRQ, ← kinv_eq (h0 b n)]
  exact (fin_v4 m c b s n d).symm

theorem k_codes_eq (h) (hx) (hr) (h0') (hb) (hb1) (hb2) (hb4) :
    hCodes (shapeCast (T4 2) (A1 m c) h) hx hb hb1 hb2 hb4 (hAmax (shapeCast (T4 2) (A1 m c) h) hx hr h0') = fin m c Cert.KernelIdeal.main_v5 := by
  funext i
  obtain ⟨b, s, n, d, rfl⟩ : ∃ (b : Fin 8) (s : Fin 2048) (n : Fin 2) (d : Fin 128), i = ix4 b s n d :=
    ⟨i 0, i 1, i 2, i 3, by funext a; fin_cases a <;> rfl⟩
  rw [codesRKV, ← kinv_eq (h1 b n)]
  exact (fin_v5 m c b s n d).symm

theorem v_codes_eq (h) (hx) (hr) (h0') (hb) (hb1) (hb2) (hb4) :
    hCodes (shapeCast (T4 2) (A2 m c) h) hx hb hb1 hb2 hb4 (hAmax (shapeCast (T4 2) (A2 m c) h) hx hr h0') = fin m c Cert.KernelIdeal.main_v8 := by
  funext i
  obtain ⟨b, s, n, d, rfl⟩ : ∃ (b : Fin 8) (s : Fin 2048) (n : Fin 2) (d : Fin 128), i = ix4 b s n d :=
    ⟨i 0, i 1, i 2, i 3, by funext a; fin_cases a <;> rfl⟩
  rw [codesRKV, ← kinv_eq (h2 b n)]
  exact (fin_v8 m c b s n d).symm

theorem q_scale_eq (h) (hx) (hr) (h0') (hb) :
    hScale hb (hAmax (shapeCast (T4 16) (A0 m c) h) hx hr h0') = fin m c Cert.KernelIdeal.main_v3 := by
  funext i
  obtain ⟨b, n, rfl⟩ : ∃ (b : Fin 8) (n : Fin 16), i = ix2 b n := ⟨i 0, i 1, by funext a; fin_cases a <;> rfl⟩
  rw [hScale_apply, amaxQ_eq, ← kscale_eq (h0 b n)]
  exact (fin_v3 m c b n).symm

theorem k_scale_eq (h) (hx) (hr) (h0') (hb) :
    hScale hb (hAmax (shapeCast (T4 2) (A1 m c) h) hx hr h0') = fin m c Cert.KernelIdeal.main_v7 := by
  funext i
  obtain ⟨b, n, rfl⟩ : ∃ (b : Fin 8) (n : Fin 2), i = ix2 b n := ⟨i 0, i 1, by funext a; fin_cases a <;> rfl⟩
  rw [hScale_apply, amaxKV_eq, ← kscale_eq (h1 b n)]
  exact (fin_v7 m c b n).symm

theorem v_scale_eq (h) (hx) (hr) (h0') (hb) :
    hScale hb (hAmax (shapeCast (T4 2) (A2 m c) h) hx hr h0') = fin m c Cert.KernelIdeal.main_v10 := by
  funext i
  obtain ⟨b, n, rfl⟩ : ∃ (b : Fin 8) (n : Fin 2), i = ix2 b n := ⟨i 0, i 1, by funext a; fin_cases a <;> rfl⟩
  rw [hScale_apply, amaxKV_eq, ← kscale_eq (h2 b n)]
  exact (fin_v10 m c b n).symm

omit h0 h1 h2

/-- The reference gives the same results as the kernel, once its output is the kernel's. -/
theorem algebraic_of (hout : ∀ m (m' : (ℓ : Loc Cert.ReferenceIdeal.nD Cert.ReferenceIdeal.τ Cert.ReferenceIdeal.sig) → Buf (Elt Ideal) ℓ) (c : Dev Cert.KernelIdeal.nD),
    (∀ b n, Ok (amaxQ (A0 m c) b n)) → (∀ b n, Ok (amaxKV (A1 m c) b n)) → (∀ b n, Ok (amaxKV (A2 m c) b n)) →
    m' ((c.tc : Thread Cert.ReferenceIdeal.nD Cert.ReferenceIdeal.τ).loc Cert.ReferenceIdeal.main_arg0) = A0 m c →
    m' ((c.tc : Thread Cert.ReferenceIdeal.nD Cert.ReferenceIdeal.τ).loc Cert.ReferenceIdeal.main_arg1) = A1 m c →
    m' ((c.tc : Thread Cert.ReferenceIdeal.nD Cert.ReferenceIdeal.τ).loc Cert.ReferenceIdeal.main_arg2) = A2 m c →
    (Cert.KernelIdeal.Gen.dats m 0 c).arrAt 3 Cert.KernelIdeal.cfg0.N = Cert.ReferenceIdeal.Value.res_main_v122 (F := Ideal) m' c) :
    Cert.algebraic_KernelIdeal_ReferenceIdeal_pre_in_range (hKernelIdeal := Cert.KernelIdeal.Gen.facts) (hReferenceIdeal := Cert.ReferenceIdeal.Gen.facts)
      (hPre_in_range := Cert.Pre_in_range.Gen.facts) := by
  intro m g m' g' hpre hargs
  have hok := fun c => pre_ok (A0 m c) (A1 m c) (A2 m c) (hpre c)
  refine ⟨fun c => (Cert.KernelIdeal.Gen.dats m 0 c).arrAt 3 Cert.KernelIdeal.cfg0.N, fun c => fin m c Cert.KernelIdeal.main_v4, fun c => fin m c Cert.KernelIdeal.main_v3, fun c => fin m c Cert.KernelIdeal.main_v5,
    fun c => fin m c Cert.KernelIdeal.main_v7, fun c => fin m c Cert.KernelIdeal.main_v8, fun c => fin m c Cert.KernelIdeal.main_v10, ?_, ?_⟩
  · refine (θ_run Cert.KernelIdeal.defs _ _).mono (fun r h c => ?_) (Cert.KernelIdeal.Gen.run_main m g)
    have hc := h c
    refine ⟨hc.1 3, hc.2 _ (by decide), hc.2 _ (by decide), hc.2 _ (by decide), hc.2 _ (by decide), hc.2 _ (by decide), hc.2 _ (by decide), ?_, ?_, ?_⟩
    · exact (hc.1 0).trans (((Cert.KernelIdeal.Gen.dats m 0 c).arrAt_in 0 rfl _).trans ((Cert.KernelIdeal.Gen.A_eq m c 0).trans (Cert.KernelIdeal.Gen.V_main_arg0 m c)))
    · exact (hc.1 1).trans (((Cert.KernelIdeal.Gen.dats m 0 c).arrAt_in 1 rfl _).trans ((Cert.KernelIdeal.Gen.A_eq m c 1).trans (Cert.KernelIdeal.Gen.V_main_arg1 m c)))
    · exact (hc.1 2).trans (((Cert.KernelIdeal.Gen.dats m 0 c).arrAt_in 2 rfl _).trans ((Cert.KernelIdeal.Gen.A_eq m c 2).trans (Cert.KernelIdeal.Gen.V_main_arg2 m c)))
  · refine (θ_run Cert.ReferenceIdeal.defs _ _).mono (fun r h c => ?_) (Cert.ReferenceIdeal.Value.run m' g')
    obtain ⟨r0, r1, r2, r3, r4, r5, r6, a0, a1, a2⟩ := h c
    obtain ⟨e0, e1, e2⟩ := hargs c
    obtain ⟨o0, o1, o2⟩ := hok c
    refine ⟨r0.trans (hout m m' c o0 o1 o2 e0 e1 e2).symm, ?_, ?_, ?_, ?_, ?_, ?_, a0, a1, a2⟩
    · refine r1.trans ?_; rw [e0]; exact q_codes_eq m c o0 o1 o2 _ _ _ _ _ _ _ _
    · refine r2.trans ?_; rw [e0]; exact q_scale_eq m c o0 o1 o2 _ _ _ _ _
    · refine r3.trans ?_; rw [e1]; exact k_codes_eq m c o0 o1 o2 _ _ _ _ _ _ _ _
    · refine r4.trans ?_; rw [e1]; exact k_scale_eq m c o0 o1 o2 _ _ _ _ _
    · refine r5.trans ?_; rw [e2]; exact v_codes_eq m c o0 o1 o2 _ _ _ _ _ _ _ _
    · refine r6.trans ?_; rw [e2]; exact v_scale_eq m c o0 o1 o2 _ _ _ _ _

end Cert.Attn
-- ==== Proof.Output.lean ====
module

public import proofs.«01_k».proof.Proof.RefMean
public import proofs.«01_k».proof.Proof.Attn
public import proofs.«01_k».proof.Proof.Algebraic

/-!
# The kernel's output is the reference's

Both are weighted means of the same codes; the kernel's weights are powers of two of scores less the greatest of its tiles,
the reference's are exponentials of scores less the greatest of the row.
-/

@[expose] public section

set_option maxRecDepth 16384

noncomputable section

namespace Cert.Attn

open Idealize.ShloMosaic Idealize.ShloMosaic.TcCoe Idealize.ShloMosaic.Tactic
open Idealize.SL Idealize.SL.Sem
open Cert.KernelIdeal (cfg0)
open Cert.KernelIdeal.Gen (A0 A1 A2 code bt ht xb kb vb qcode kvcode factor rowScore column entry greatest greatest_isMax qmax kmax vmax headMax)

section
variable (m : (ℓ : Loc Cert.KernelIdeal.nD Cert.KernelIdeal.τ Cert.KernelIdeal.sig) → Buf (Elt Ideal) ℓ) (c : Dev Cert.KernelIdeal.nD)
  (h0 : ∀ b n, Ok (amaxQ (A0 m c) b n)) (h1 : ∀ b n, Ok (amaxKV (A1 m c) b n)) (h2 : ∀ b n, Ok (amaxKV (A2 m c) b n)) (t : Fin cfg0.N)

/-- The query head a grid point and a trip work on. -/
abbrev qhead (g : Fin 8) : Fin 16 := ⟨8 * (ht t).val + g.val, by have := (ht t).isLt; omega⟩

include h0 in
theorem qcode_eq (g : Fin 8) (s : Fin 2048) (e : Fin 128) : qcode (xb m c t) g s e = refQ (A0 m c) (ix4 (bt t) s (qhead t g) e) := by
  unfold refQ
  rw [codesRQ, ← kinv_eq (h0 _ _), ← Cert.KernelIdeal.Gen.qmax_eq]
  unfold qcode
  rw [Cert.KernelIdeal.Gen.xb_apply]
  refine congrArg₂ code (congrArg (A0 m c) ?_) rfl
  refine congrArg (ix3 (bt t) s) (Fin.ext ?_)
  show 1024 * (ht t).val + (128 * g.val + e.val) = 128 * (8 * (ht t).val + g.val) + e.val
  omega

include h1 in
theorem kcode_eq (s : Fin 2048) (e : Fin 128) : kvcode (kb m c t) s e = refKV (A1 m c) (ix4 (bt t) s (ht t) e) := by
  unfold refKV
  rw [codesRKV, ← kinv_eq (h1 _ _), ← Cert.KernelIdeal.Gen.kmax_eq]
  unfold kvcode
  rw [Cert.KernelIdeal.Gen.kb_apply]
  rfl

include h2 in
theorem vcode_eq (s : Fin 2048) (e : Fin 128) : kvcode (vb m c t) s e = refKV (A2 m c) (ix4 (bt t) s (ht t) e) := by
  unfold refKV
  rw [codesRKV, ← kinv_eq (h2 _ _), ← Cert.KernelIdeal.Gen.vmax_eq]
  unfold kvcode
  rw [Cert.KernelIdeal.Gen.vb_apply]
  rfl

include h0 h1 in
theorem rowScore_eq (g : Fin 8) (s : Fin 2048) : rowScore (xb m c t) (kb m c t) g s = refScore (refQ (A0 m c)) (refKV (A1 m c)) (bt t) (ht t) s g := by
  funext κ
  unfold rowScore refScore
  exact Finset.sum_congr rfl fun e _ => congrArg₂ (· * ·) (kcode_eq m c h1 t _ e) (qcode_eq m c h0 t g s e)

include h2 in
theorem column_eq (d : Fin 128) : column (vb m c t) d = fun κ => refKV (A2 m c) (ix4 (bt t) (keyAt κ) (ht t) d) :=
  funext fun κ => vcode_eq m c h2 t (keyAt κ) d

include h0 h1 in
/-- The two factors are one positive real number, but for the change of base. -/
theorem factors (g : Fin 8) : ∃ ss : ℝ, 0 < ss ∧ factor (xb m c t) (kb m c t) g = ((ss * (Real.log 2)⁻¹ : ℝ) : EReal)
    ∧ rFactor (refQs (A0 m c)) (refKVs (A1 m c)) (ix3 (bt t) (ht t) g) = (ss : EReal) := by
  obtain ⟨e1, k1, r1, -⟩ := scale_eq (h0 (bt t) (qhead t g))
  obtain ⟨e2, k2, r2, -⟩ := scale_eq (h1 (bt t) (ht t))
  obtain ⟨T, hT, eT⟩ := temper_real
  refine ⟨(2 : ℝ) ^ e1 * (2 : ℝ) ^ e2 * T, by positivity, ?_, ?_⟩
  · show kscale (qmax m c t g) * kscale (kmax m c t) * Ideal.ofBits .f32 1035273459#32 * (((Real.log 2)⁻¹ : ℝ) : EReal) = _
    rw [Cert.KernelIdeal.Gen.qmax_eq, Cert.KernelIdeal.Gen.kmax_eq, k1, k2, eT]
    simp only [EReal.coe_mul]
  · rw [rFactor_apply]
    unfold refQs refKVs
    rw [hScale_apply, hScale_apply, amaxQ_eq, amaxKV_eq, r1, r2]
    show _ * Ideal.ofBits .f32 1035273459#32 = _
    rw [eT]
    simp only [EReal.coe_mul]

include h0 h1 h2 in
/-- Entry by entry. -/
theorem entry_eq (g : Fin 8) (s : Fin 2048) (d : Fin 128) (l : Fin 2048) (hl : l.val = 1024 * (ht t).val + 128 * g.val + d.val) :
    entry (xb m c t) (kb m c t) (vb m c t) g s d = refOut (A0 m c) (A1 m c) (A2 m c) (ix3 (bt t) s l) := by
  unfold refOut
  rw [rOut_mean _ _ _ _ _ _ (bt t) (ht t) s g d l hl]
  have hmax := rMax_isMax (refQ (A0 m c)) (refKV (A1 m c)) (refQs (A0 m c)) (refKVs (A1 m c)) (bt t) (ht t) s g
  generalize rMax _ _ = m' at hmax ⊢
  unfold entry
  have hg := greatest_isMax (256 * (s.val / 256 + 1)) s.val (rowScore (xb m c t) (kb m c t) g s)
  generalize greatest _ _ _ = m'' at hg ⊢
  rw [rowScore_eq m c h0 h1, column_eq m c h2]
  rw [rowScore_eq m c h0 h1] at hg
  obtain ⟨ss, hss, f1, f2⟩ := factors m c h0 h1 t g
  rw [f2] at hmax ⊢
  rw [f1]
  obtain ⟨e3, k3, r3, -⟩ := scale_eq (h2 (bt t) (ht t))
  have v1 : kscale (headMax fun s d => vb m c t (ix3 0 s d)) = (((2 : ℝ) ^ e3 : ℝ) : EReal) := by
    show kscale (vmax m c t) = _
    rw [Cert.KernelIdeal.Gen.vmax_eq, k3]
  have v2 : refKVs (A2 m c) (ix2 (bt t) (ht t)) = (((2 : ℝ) ^ e3 : ℝ) : EReal) := by
    unfold refKVs
    rw [hScale_apply, amaxKV_eq, r3]
  rw [v1, v2]
  have hS : ∀ κ, ∃ r : ℝ, refScore (refQ (A0 m c)) (refKV (A1 m c)) (bt t) (ht t) s g κ = (r : EReal) := fun κ =>
    sum_real (fun e => by unfold refKV; rw [codesRKV]; exact code_real _ _) (fun e => by unfold refQ; rw [codesRQ]; exact code_real _ _)
  have hV : ∀ κ, ∃ r : ℝ, refKV (A2 m c) (ix4 (bt t) (keyAt κ) (ht t) d) = (r : EReal) := fun κ => by
    unfold refKV; rw [codesRKV]; exact code_real _ _
  choose S hS using hS
  choose V hV using hV
  rw [show refScore (refQ (A0 m c)) (refKV (A1 m c)) (bt t) (ht t) s g = fun κ => (S κ : EReal) from funext hS] at hg hmax ⊢
  simp only [hV]
  exact mean_eq (by omega) s.isLt S V hss _ hg hmax
end

/-- The output array. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : ∀ b n, Ok (amaxQ (A0 m c) b n)) (h1 : ∀ b n, Ok (amaxKV (A1 m c) b n)) (h2 : ∀ b n, Ok (amaxKV (A2 m c) b n))
    (e0 : m' ((c.tc : Thread Cert.ReferenceIdeal.nD Cert.ReferenceIdeal.τ).loc Cert.ReferenceIdeal.main_arg0) = A0 m c)
    (e1 : m' ((c.tc : Thread Cert.ReferenceIdeal.nD Cert.ReferenceIdeal.τ).loc Cert.ReferenceIdeal.main_arg1) = A1 m c)
    (e2 : m' ((c.tc : Thread Cert.ReferenceIdeal.nD Cert.ReferenceIdeal.τ).loc Cert.ReferenceIdeal.main_arg2) = A2 m c) :
    (Cert.KernelIdeal.Gen.dats m 0 c).arrAt 3 Cert.KernelIdeal.cfg0.N = Cert.ReferenceIdeal.Value.res_main_v122 (F := Ideal) m' c := by
  rw [res_eq, e0, e1, e2]
  refine Cert.KernelIdeal.Gen.arr3 m c _ fun t s l => ?_
  have hl := l.isLt
  rw [Cert.KernelIdeal.Gen.out0_3_apply, Cert.KernelIdeal.Gen.attnBlock_of _ _ _ _ (⟨l.val / 128, by omega⟩ : Fin 8) s (⟨l.val % 128, by omega⟩ : Fin 128) rfl
    (by show l.val = 128 * (l.val / 128) + l.val % 128; omega)]
  refine entry_eq m c h0 h1 h2 t _ s _ _ ?_
  show 1024 * (ht t).val + l.val = 1024 * (ht t).val + 128 * (l.val / 128) + l.val % 128
  omega

/-- The kernel's seven results are the reference's. -/
theorem algebraic : Cert.algebraic_KernelIdeal_ReferenceIdeal_pre_in_range (hKernelIdeal := Cert.KernelIdeal.Gen.facts) (hReferenceIdeal := Cert.ReferenceIdeal.Gen.facts)
    (hPre_in_range := Cert.Pre_in_range.Gen.facts) := algebraic_of out_eq

end Cert.Attn
-- ==== Proof.lean ====
module

public import proofs.«01_k».proof.Defs
public import proofs.«01_k».proof.Proof.Frames
public import proofs.«01_k».proof.Proof.Output

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_kernelIdeal, frame_kernelIdeal_pre, frame_referenceIdeal, frame_referenceIdeal_pre, preserves_log2e, Cert.Attn.algebraic⟩

end Cert.Proof

end
